-- ==== Defs.lean ====
def Pre_Kernel [hPre_batch_in_graphs : Cert.Pre_batch_in_graphs.Facts] (m : (ℓ : Loc Cert.Kernel.nD Cert.Kernel.τ Cert.Kernel.sig) → Buf (Elt Bits) ℓ) : Prop :=
  ∀ c : Dev Cert.Kernel.nD,
    (Cert.Pre_batch_in_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_batch_in_graphs : Cert.Pre_batch_in_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_graphs [hPre_batch_in_graphs : Cert.Pre_batch_in_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_batch_in_graphs : Cert.Pre_batch_in_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_batch_in_graphs : Cert.Pre_batch_in_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_batch_in_graphs [hReferenceIdeal : Cert.ReferenceIdeal.Facts] [hPre_batch_in_graphs : Cert.Pre_batch_in_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_batch_in_graphs : Cert.Pre_batch_in_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_batch_in_graphs : Cert.Pre_batch_in_graphs.Facts),
    quiescent_Kernel (hKernel := hKernel) (hPre_batch_in_graphs := hPre_batch_in_graphs)
    ∧ quiescent_KernelIdeal (hKernelIdeal := hKernelIdeal) (hPre_batch_in_graphs := hPre_batch_in_graphs)
    ∧ quiescent_ReferenceIdeal (hReferenceIdeal := hReferenceIdeal)
    ∧ quiescent_ReferenceIdeal_pre_batch_in_graphs (hReferenceIdeal := hReferenceIdeal) (hPre_batch_in_graphs := hPre_batch_in_graphs)
    ∧ preserves_Kernel_KernelIdeal
    ∧ algebraic_KernelIdeal_ReferenceIdeal (hKernelIdeal := hKernelIdeal) (hReferenceIdeal := hReferenceIdeal) (hPre_batch_in_graphs := hPre_batch_in_graphs)
-- ==== Pre_batch_in_graphs.lean ====
abbrev S10000x128 : Shape := ⟨2, ![10000, 128]⟩
abbrev S2x320000 : Shape := ⟨2, ![2, 320000]⟩
abbrev S320000x4 : Shape := ⟨2, ![320000, 4]⟩
abbrev S64x8 : Shape := ⟨2, ![64, 8]⟩
abbrev S10000 : Shape := ⟨1, ![10000]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel

variable [Facts]

def fn {F : FTy → Type} [FloatOps F] (main_arg0 : FVec F S10000x128 .f32) (main_arg1 : IVec S2x320000 32) (main_arg2 : FVec F S320000x4 .f32) (main_arg3 : FVec F S64x8 .f32) (main_arg4 : IVec S10000 32) : IVec S_ 1 :=
  let main_c : IVec S_ 32 := constantI S_ 32 0#32
  let main_v0 : IVec S10000 32 := broadcastInDim S10000 ![] bcast_S_S10000 main_c
  let main_v1 : IVec S10000 1 := cmpi .sge main_arg4 main_v0
  let main_c_0 : IVec S_ 1 := constantI S_ 1 1#1
  let main_v2 : IVec S_ 1 := (fun x v => Host.reduce IntOp.andi x v reducesTo_S10000_S_d0 h_S_) main_v1 main_c_0
  let main_c_1 : IVec S_ 32 := constantI S_ 32 64#32
  let main_v3 : IVec S10000 32 := broadcastInDim S10000 ![] bcast_S_S10000 main_c_1
  let main_v4 : IVec S10000 1 := cmpi .slt main_arg4 main_v3
  let main_c_2 : IVec S_ 1 := constantI S_ 1 1#1
  let main_v5 : IVec S_ 1 := (fun x v => Host.reduce IntOp.andi x v reducesTo_S10000_S_d0 h_S_) main_v4 main_c_2
  let main_v6 : IVec S_ 1 := andi main_v2 main_v5
  main_v6
-- ==== Kernel.lean ====
abbrev S10000x128 : Shape := ⟨2, ![10000, 128]⟩
abbrev S2x320000 : Shape := ⟨2, ![2, 320000]⟩
abbrev S320000x4 : Shape := ⟨2, ![320000, 4]⟩
abbrev S64x8 : Shape := ⟨2, ![64, 8]⟩
abbrev S10000 : Shape := ⟨1, ![10000]⟩
abbrev S1280000 : Shape := ⟨1, ![1280000]⟩
abbrev S32x64 : Shape := ⟨2, ![32, 64]⟩
abbrev S40960 : Shape := ⟨1, ![40960]⟩
abbrev S320 : Shape := ⟨1, ![320]⟩
abbrev S16x64 : Shape := ⟨2, ![16, 64]⟩
abbrev S64 : Shape := ⟨1, ![64]⟩
abbrev S_ : Shape := ⟨0, ![]⟩
abbrev S16 : Shape := ⟨1, ![16]⟩
abbrev S1x16 : Shape := ⟨2, ![1, 16]⟩
abbrev S20480 : Shape := ⟨1, ![20480]⟩
abbrev S5120 : Shape := ⟨1, ![5120]⟩
abbrev S80 : Shape := ⟨1, ![80]⟩
abbrev S1x64 : Shape := ⟨2, ![1, 64]⟩
abbrev S1x8 : Shape := ⟨2, ![1, 8]⟩

abbrev nBuf : Table → Nat
  | .hbm => 10
  | .local .tc .vmem => 4
  | .local .scVector .vmem => 6
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S64x8, .f32⟩
  | .hbm, ⟨4, _⟩ => ⟨S10000, .i32⟩
  | .hbm, ⟨5, _⟩ => ⟨S1280000, .f32⟩
  | .hbm, ⟨6, _⟩ => ⟨S32x64, .f32⟩
  | .hbm, ⟨7, _⟩ => ⟨S32x64, .f32⟩
  | .hbm, ⟨8, _⟩ => ⟨S1x64, .f32⟩
  | .hbm, ⟨9, _⟩ => ⟨S64, .f32⟩
  | .local .tc .vmem, ⟨0, _⟩ => ⟨S32x64, .f32⟩
  | .local .tc .vmem, ⟨1, _⟩ => ⟨S32x64, .f32⟩
  | .local .tc .vmem, ⟨2, _⟩ => ⟨S64x8, .f32⟩
  | .local .tc .vmem, ⟨3, _⟩ => ⟨S1x64, .f32⟩
  | .local .scVector .vmem, ⟨0, _⟩ => ⟨S40960, .f32⟩
  | .local .scVector .vmem, ⟨1, _⟩ => ⟨S320, .i32⟩
  | .local .scVector .vmem, ⟨2, _⟩ => ⟨S16x64, .f32⟩
  | .local .scVector .vmem, ⟨3, _⟩ => ⟨S16x64, .f32⟩
  | .local .scVector .vmem, ⟨4, _⟩ => ⟨S64, .f32⟩
  | .local .scVector .vmem, ⟨5, _⟩ => ⟨S64, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 5, rfl⟩
abbrev main_arg4_scv : Ref sig .scVector := ⟨.hbm, 4, rfl⟩
abbrev main_v1_0_scv : Ref sig .scVector := ⟨.hbm, 6, rfl⟩
abbrev main_v1_1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 8
abbrev cc1_sem1_0 : DmaSem sig := 9
abbrev cc1_sem2_0 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v277 : BitVec 1 := Scalar.cmpi .slt v1 c31_i32
  let v278 : BitVec 32 := Scalar.extui v277
  let c0_i32_245 : BitVec 32 := 0#32
  let v279 : BitVec 1 := Scalar.cmpi .ne v278 c0_i32_245
  v279

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32 : BitVec 32 := 320#32
  let v667 : BitVec 32 := Scalar.muli v1 c320_i32
  let c128_i32 : BitVec 32 := 128#32
  let v668 : BitVec 32 := Scalar.muli v667 c128_i32
  ![v668.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32 : BitVec 32 := 320#32
  let v667 : BitVec 32 := Scalar.muli v1 c320_i32
  let c160_i32 : BitVec 32 := 160#32
  let v673 : BitVec 32 := Scalar.addi v667 c160_i32
  let c128_i32_514 : BitVec 32 := 128#32
  let v674 : BitVec 32 := Scalar.muli v673 c128_i32_514
  ![v674.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32 : BitVec 32 := 320#32
  let v667 : BitVec 32 := Scalar.muli v1 c320_i32
  ![v667.toNat]
@[reducible] def k0_t1_loop : Scf.Loop 32 :=
  let c0_i32_519 : BitVec 32 := 0#32
  let c10_i32_520 : BitVec 32 := 10#32
  let v683 : BitVec 32 := Scalar.addi c0_i32_519 c10_i32_520
  let c1_i32_521 : BitVec 32 := 1#32
  ⟨c0_i32_519, v683, c1_i32_521⟩
def k0_mult1 (k0_t1 : Fin k0_t1_loop.trips) : BitVec 32 :=
  let c0_i32_519 : BitVec 32 := 0#32
  let c1_i32_521 : BitVec 32 := 1#32
  let arg16 : BitVec 32 := Scf.iv c0_i32_519 c1_i32_521 k0_t1
  let c16_i32_531 : BitVec 32 := 16#32
  let v696 : BitVec 32 := Scalar.muli arg16 c16_i32_531
  v696
def k0_off4 (k0_t1 : Fin k0_t1_loop.trips) : Fin 1 → Nat :=
  let c0_i32_519 : BitVec 32 := 0#32
  let c1_i32_521 : BitVec 32 := 1#32
  let arg16 : BitVec 32 := Scf.iv c0_i32_519 c1_i32_521 k0_t1
  let c16_i32_531 : BitVec 32 := 16#32
  let v696 : BitVec 32 := Scalar.muli arg16 c16_i32_531
  let v697 : BitVec 32 := v696
  let v698 : Index := Scalar.indexCast v697
  ![v698.toNat]
@[reducible] def k0_t2_loop : Scf.Loop 32 :=
  let c0_i32_532 : BitVec 32 := 0#32
  let c16_i32_533 : BitVec 32 := 16#32
  let v700 : BitVec 32 := Scalar.addi c0_i32_532 c16_i32_533
  let c1_i32_534 : BitVec 32 := 1#32
  ⟨c0_i32_532, v700, c1_i32_534⟩

def k0_chk1 (i : grid0.Coords) (v706 : IVec S16 32) : Prop :=
  (∀ (k0_h1 : k0_cond1 i = 1#1), ∀ a x, ((![v706] : Fin 1 → IVec S16 32) a x).toNat < S40960.size a)
theorem k0_idx1_inb : ∀ (i : grid0.Coords) (v706 : IVec S16 32) (k0_hw1 : k0_chk1 i v706), ∀ (k0_h1 : k0_cond1 i = 1#1), ∀ a x, ((![v706] : Fin 1 → IVec S16 32) a x).toNat < S40960.size a := fun i v706 k0_hw1 k0_h1 => k0_hw1 k0_h1

def k0_chk2 (i : grid0.Coords) (v710 : IVec S16 32) : Prop :=
  (∀ (k0_h1 : k0_cond1 i = 1#1), ∀ a x, ((![v710] : Fin 1 → IVec S16 32) a x).toNat < S40960.size a)
theorem k0_idx2_inb : ∀ (i : grid0.Coords) (v710 : IVec S16 32) (k0_hw2 : k0_chk2 i v710), ∀ (k0_h1 : k0_cond1 i = 1#1), ∀ a x, ((![v710] : Fin 1 → IVec S16 32) a x).toNat < S40960.size a := fun i v710 k0_hw2 k0_h1 => k0_hw2 k0_h1

def k0_chk3 (i : grid0.Coords) (v714 : IVec S16 32) : Prop :=
  (∀ (k0_h1 : k0_cond1 i = 1#1), ∀ a x, ((![v714] : Fin 1 → IVec S16 32) a x).toNat < S40960.size a)
theorem k0_idx3_inb : ∀ (i : grid0.Coords) (v714 : IVec S16 32) (k0_hw3 : k0_chk3 i v714), ∀ (k0_h1 : k0_cond1 i = 1#1), ∀ a x, ((![v714] : Fin 1 → IVec S16 32) a x).toNat < S40960.size a := fun i v714 k0_hw3 k0_h1 => k0_hw3 k0_h1

def k0_chk4 (i : grid0.Coords) (v718 : IVec S16 32) : Prop :=
  (∀ (k0_h1 : k0_cond1 i = 1#1), ∀ a x, ((![v718] : Fin 1 → IVec S16 32) a x).toNat < S40960.size a)
theorem k0_idx4_inb : ∀ (i : grid0.Coords) (v718 : IVec S16 32) (k0_hw4 : k0_chk4 i v718), ∀ (k0_h1 : k0_cond1 i = 1#1), ∀ a x, ((![v718] : Fin 1 → IVec S16 32) a x).toNat < S40960.size a := fun i v718 k0_hw4 k0_h1 => k0_hw4 k0_h1

def k0_chk5 (i : grid0.Coords) (v722 : IVec S16 32) : Prop :=
  (∀ (k0_h1 : k0_cond1 i = 1#1), ∀ a x, ((![v722] : Fin 1 → IVec S16 32) a x).toNat < S40960.size a)
theorem k0_idx5_inb : ∀ (i : grid0.Coords) (v722 : IVec S16 32) (k0_hw5 : k0_chk5 i v722), ∀ (k0_h1 : k0_cond1 i = 1#1), ∀ a x, ((![v722] : Fin 1 → IVec S16 32) a x).toNat < S40960.size a := fun i v722 k0_hw5 k0_h1 => k0_hw5 k0_h1

def k0_chk6 (i : grid0.Coords) (v726 : IVec S16 32) : Prop :=
  (∀ (k0_h1 : k0_cond1 i = 1#1), ∀ a x, ((![v726] : Fin 1 → IVec S16 32) a x).toNat < S40960.size a)
theorem k0_idx6_inb : ∀ (i : grid0.Coords) (v726 : IVec S16 32) (k0_hw6 : k0_chk6 i v726), ∀ (k0_h1 : k0_cond1 i = 1#1), ∀ a x, ((![v726] : Fin 1 → IVec S16 32) a x).toNat < S40960.size a := fun i v726 k0_hw6 k0_h1 => k0_hw6 k0_h1

def k0_chk7 (i : grid0.Coords) (v730 : IVec S16 32) : Prop :=
  (∀ (k0_h1 : k0_cond1 i = 1#1), ∀ a x, ((![v730] : Fin 1 → IVec S16 32) a x).toNat < S40960.size a)
theorem k0_idx7_inb : ∀ (i : grid0.Coords) (v730 : IVec S16 32) (k0_hw7 : k0_chk7 i v730), ∀ (k0_h1 : k0_cond1 i = 1#1), ∀ a x, ((![v730] : Fin 1 → IVec S16 32) a x).toNat < S40960.size a := fun i v730 k0_hw7 k0_h1 => k0_hw7 k0_h1

def k0_chk8 (i : grid0.Coords) (v734 : IVec S16 32) : Prop :=
  (∀ (k0_h1 : k0_cond1 i = 1#1), ∀ a x, ((![v734] : Fin 1 → IVec S16 32) a x).toNat < S40960.size a)
theorem k0_idx8_inb : ∀ (i : grid0.Coords) (v734 : IVec S16 32) (k0_hw8 : k0_chk8 i v734), ∀ (k0_h1 : k0_cond1 i = 1#1), ∀ a x, ((![v734] : Fin 1 → IVec S16 32) a x).toNat < S40960.size a := fun i v734 k0_hw8 k0_h1 => k0_hw8 k0_h1

def k0_chk9 (i : grid0.Coords) (v2 : IVec S16 32) (v699 : IVec S16 32) : Prop :=
  (∀ (k0_h1 : k0_cond1 i = 1#1), ∀ a x, ((![v2, v699] : Fin 2 → IVec S16 32) a x).toNat < S16x64.size a) ∧
  (∀ (k0_h1 : k0_cond1 i = 1#1), ∀ a x, ((![v2, v699] : Fin 2 → IVec S16 32) a x).toNat < S16x64.size a)
theorem k0_idx9_inb : ∀ (i : grid0.Coords) (v2 : IVec S16 32) (v699 : IVec S16 32) (k0_hw9 : k0_chk9 i v2 v699), ∀ (k0_h1 : k0_cond1 i = 1#1), ∀ a x, ((![v2, v699] : Fin 2 → IVec S16 32) a x).toNat < S16x64.size a := fun i v2 v699 k0_hw9 k0_h1 => k0_hw9.1 k0_h1
theorem k0_idx10_inb : ∀ (i : grid0.Coords) (v2 : IVec S16 32) (v699 : IVec S16 32) (k0_hw9 : k0_chk9 i v2 v699), ∀ (k0_h1 : k0_cond1 i = 1#1), ∀ a x, ((![v2, v699] : Fin 2 → IVec S16 32) a x).toNat < S16x64.size a := fun i v2 v699 k0_hw9 k0_h1 => k0_hw9.2 k0_h1
def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32 : BitVec 32 := 320#32
  let v667 : BitVec 32 := Scalar.muli v1 c320_i32
  let c160_i32 : BitVec 32 := 160#32
  let v673 : BitVec 32 := Scalar.addi v667 c160_i32
  let c128_i32_514 : BitVec 32 := 128#32
  let v674 : BitVec 32 := Scalar.muli v673 c128_i32_514
  ![v674.toNat]
@[reducible] def k0_t3_loop : Scf.Loop 32 :=
  let c10_i32_526 : BitVec 32 := 10#32
  let c10_i32_527 : BitVec 32 := 10#32
  let v689 : BitVec 32 := Scalar.addi c10_i32_526 c10_i32_527
  let c1_i32_528 : BitVec 32 := 1#32
  ⟨c10_i32_526, v689, c1_i32_528⟩
def k0_mult2 (k0_t3 : Fin k0_t3_loop.trips) : BitVec 32 :=
  let c10_i32_526 : BitVec 32 := 10#32
  let c1_i32_528 : BitVec 32 := 1#32
  let arg16 : BitVec 32 := Scf.iv c10_i32_526 c1_i32_528 k0_t3
  let c16_i32_531 : BitVec 32 := 16#32
  let v696 : BitVec 32 := Scalar.muli arg16 c16_i32_531
  v696
def k0_off6 (k0_t3 : Fin k0_t3_loop.trips) : Fin 1 → Nat :=
  let c10_i32_526 : BitVec 32 := 10#32
  let c1_i32_528 : BitVec 32 := 1#32
  let arg16 : BitVec 32 := Scf.iv c10_i32_526 c1_i32_528 k0_t3
  let c16_i32_531 : BitVec 32 := 16#32
  let v696 : BitVec 32 := Scalar.muli arg16 c16_i32_531
  let v697 : BitVec 32 := v696
  let v698 : Index := Scalar.indexCast v697
  ![v698.toNat]
@[reducible] def k0_t4_loop : Scf.Loop 32 :=
  let c0_i32_532 : BitVec 32 := 0#32
  let c16_i32_533 : BitVec 32 := 16#32
  let v700 : BitVec 32 := Scalar.addi c0_i32_532 c16_i32_533
  let c1_i32_534 : BitVec 32 := 1#32
  ⟨c0_i32_532, v700, c1_i32_534⟩

def k0_chk10 (i : grid0.Coords) (v706 : IVec S16 32) : Prop :=
  (∀ (k0_h1 : k0_cond1 i = 1#1), ∀ a x, ((![v706] : Fin 1 → IVec S16 32) a x).toNat < S40960.size a)
theorem k0_idx11_inb : ∀ (i : grid0.Coords) (v706 : IVec S16 32) (k0_hw10 : k0_chk10 i v706), ∀ (k0_h1 : k0_cond1 i = 1#1), ∀ a x, ((![v706] : Fin 1 → IVec S16 32) a x).toNat < S40960.size a := fun i v706 k0_hw10 k0_h1 => k0_hw10 k0_h1

def k0_chk11 (i : grid0.Coords) (v710 : IVec S16 32) : Prop :=
  (∀ (k0_h1 : k0_cond1 i = 1#1), ∀ a x, ((![v710] : Fin 1 → IVec S16 32) a x).toNat < S40960.size a)
theorem k0_idx12_inb : ∀ (i : grid0.Coords) (v710 : IVec S16 32) (k0_hw11 : k0_chk11 i v710), ∀ (k0_h1 : k0_cond1 i = 1#1), ∀ a x, ((![v710] : Fin 1 → IVec S16 32) a x).toNat < S40960.size a := fun i v710 k0_hw11 k0_h1 => k0_hw11 k0_h1

def k0_chk12 (i : grid0.Coords) (v714 : IVec S16 32) : Prop :=
  (∀ (k0_h1 : k0_cond1 i = 1#1), ∀ a x, ((![v714] : Fin 1 → IVec S16 32) a x).toNat < S40960.size a)
theorem k0_idx13_inb : ∀ (i : grid0.Coords) (v714 : IVec S16 32) (k0_hw12 : k0_chk12 i v714), ∀ (k0_h1 : k0_cond1 i = 1#1), ∀ a x, ((![v714] : Fin 1 → IVec S16 32) a x).toNat < S40960.size a := fun i v714 k0_hw12 k0_h1 => k0_hw12 k0_h1

def k0_chk13 (i : grid0.Coords) (v718 : IVec S16 32) : Prop :=
  (∀ (k0_h1 : k0_cond1 i = 1#1), ∀ a x, ((![v718] : Fin 1 → IVec S16 32) a x).toNat < S40960.size a)
theorem k0_idx14_inb : ∀ (i : grid0.Coords) (v718 : IVec S16 32) (k0_hw13 : k0_chk13 i v718), ∀ (k0_h1 : k0_cond1 i = 1#1), ∀ a x, ((![v718] : Fin 1 → IVec S16 32) a x).toNat < S40960.size a := fun i v718 k0_hw13 k0_h1 => k0_hw13 k0_h1

def k0_chk14 (i : grid0.Coords) (v722 : IVec S16 32) : Prop :=
  (∀ (k0_h1 : k0_cond1 i = 1#1), ∀ a x, ((![v722] : Fin 1 → IVec S16 32) a x).toNat < S40960.size a)
theorem k0_idx15_inb : ∀ (i : grid0.Coords) (v722 : IVec S16 32) (k0_hw14 : k0_chk14 i v722), ∀ (k0_h1 : k0_cond1 i = 1#1), ∀ a x, ((![v722] : Fin 1 → IVec S16 32) a x).toNat < S40960.size a := fun i v722 k0_hw14 k0_h1 => k0_hw14 k0_h1

def k0_chk15 (i : grid0.Coords) (v726 : IVec S16 32) : Prop :=
  (∀ (k0_h1 : k0_cond1 i = 1#1), ∀ a x, ((![v726] : Fin 1 → IVec S16 32) a x).toNat < S40960.size a)
theorem k0_idx16_inb : ∀ (i : grid0.Coords) (v726 : IVec S16 32) (k0_hw15 : k0_chk15 i v726), ∀ (k0_h1 : k0_cond1 i = 1#1), ∀ a x, ((![v726] : Fin 1 → IVec S16 32) a x).toNat < S40960.size a := fun i v726 k0_hw15 k0_h1 => k0_hw15 k0_h1

def k0_chk16 (i : grid0.Coords) (v730 : IVec S16 32) : Prop :=
  (∀ (k0_h1 : k0_cond1 i = 1#1), ∀ a x, ((![v730] : Fin 1 → IVec S16 32) a x).toNat < S40960.size a)
theorem k0_idx17_inb : ∀ (i : grid0.Coords) (v730 : IVec S16 32) (k0_hw16 : k0_chk16 i v730), ∀ (k0_h1 : k0_cond1 i = 1#1), ∀ a x, ((![v730] : Fin 1 → IVec S16 32) a x).toNat < S40960.size a := fun i v730 k0_hw16 k0_h1 => k0_hw16 k0_h1

def k0_chk17 (i : grid0.Coords) (v734 : IVec S16 32) : Prop :=
  (∀ (k0_h1 : k0_cond1 i = 1#1), ∀ a x, ((![v734] : Fin 1 → IVec S16 32) a x).toNat < S40960.size a)
theorem k0_idx18_inb : ∀ (i : grid0.Coords) (v734 : IVec S16 32) (k0_hw17 : k0_chk17 i v734), ∀ (k0_h1 : k0_cond1 i = 1#1), ∀ a x, ((![v734] : Fin 1 → IVec S16 32) a x).toNat < S40960.size a := fun i v734 k0_hw17 k0_h1 => k0_hw17 k0_h1

def k0_chk18 (i : grid0.Coords) (v2 : IVec S16 32) (v699 : IVec S16 32) : Prop :=
  (∀ (k0_h1 : k0_cond1 i = 1#1), ∀ a x, ((![v2, v699] : Fin 2 → IVec S16 32) a x).toNat < S16x64.size a) ∧
  (∀ (k0_h1 : k0_cond1 i = 1#1), ∀ a x, ((![v2, v699] : Fin 2 → IVec S16 32) a x).toNat < S16x64.size a)
theorem k0_idx19_inb : ∀ (i : grid0.Coords) (v2 : IVec S16 32) (v699 : IVec S16 32) (k0_hw18 : k0_chk18 i v2 v699), ∀ (k0_h1 : k0_cond1 i = 1#1), ∀ a x, ((![v2, v699] : Fin 2 → IVec S16 32) a x).toNat < S16x64.size a := fun i v2 v699 k0_hw18 k0_h1 => k0_hw18.1 k0_h1
theorem k0_idx20_inb : ∀ (i : grid0.Coords) (v2 : IVec S16 32) (v699 : IVec S16 32) (k0_hw18 : k0_chk18 i v2 v699), ∀ (k0_h1 : k0_cond1 i = 1#1), ∀ a x, ((![v2, v699] : Fin 2 → IVec S16 32) a x).toNat < S16x64.size a := fun i v2 v699 k0_hw18 k0_h1 => k0_hw18.2 k0_h1
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_246 : BitVec 32 := 31#32
  let v280 : BitVec 1 := Scalar.cmpi .eq v1 c31_i32_246
  let v281 : BitVec 32 := Scalar.extui v280
  let c0_i32_247 : BitVec 32 := 0#32
  let v282 : BitVec 1 := Scalar.cmpi .ne v281 c0_i32_247
  v282

@[reducible] def k0_t5_loop : Scf.Loop 32 :=
  let c0_i32_522 : BitVec 32 := 0#32
  let c2_i32_523 : BitVec 32 := 2#32
  let v679 : BitVec 32 := Scalar.addi c0_i32_522 c2_i32_523
  let c1_i32_524 : BitVec 32 := 1#32
  ⟨c0_i32_522, v679, c1_i32_524⟩
def k0_mult3 (k0_t5 : Fin k0_t5_loop.trips) : BitVec 32 :=
  let c0_i32_522 : BitVec 32 := 0#32
  let c1_i32_524 : BitVec 32 := 1#32
  let arg16 : BitVec 32 := Scf.iv c0_i32_522 c1_i32_524 k0_t5
  let c16_i32_535 : BitVec 32 := 16#32
  let v692 : BitVec 32 := Scalar.muli arg16 c16_i32_535
  v692
def k0_off7 (k0_t5 : Fin k0_t5_loop.trips) : Fin 1 → Nat :=
  let c0_i32_522 : BitVec 32 := 0#32
  let c1_i32_524 : BitVec 32 := 1#32
  let arg16 : BitVec 32 := Scf.iv c0_i32_522 c1_i32_524 k0_t5
  let c16_i32_535 : BitVec 32 := 16#32
  let v692 : BitVec 32 := Scalar.muli arg16 c16_i32_535
  let v693 : BitVec 32 := v692
  let v694 : Index := Scalar.indexCast v693
  ![v694.toNat]
@[reducible] def k0_t6_loop : Scf.Loop 32 :=
  let c0_i32_536 : BitVec 32 := 0#32
  let c16_i32_537 : BitVec 32 := 16#32
  let v696 : BitVec 32 := Scalar.addi c0_i32_536 c16_i32_537
  let c1_i32_538 : BitVec 32 := 1#32
  ⟨c0_i32_536, v696, c1_i32_538⟩

def k0_chk19 (i : grid0.Coords) (v702 : IVec S16 32) : Prop :=
  (∀ (k0_h2 : k0_cond2 i = 1#1), ∀ a x, ((![v702] : Fin 1 → IVec S16 32) a x).toNat < S40960.size a)
theorem k0_idx21_inb : ∀ (i : grid0.Coords) (v702 : IVec S16 32) (k0_hw19 : k0_chk19 i v702), ∀ (k0_h2 : k0_cond2 i = 1#1), ∀ a x, ((![v702] : Fin 1 → IVec S16 32) a x).toNat < S40960.size a := fun i v702 k0_hw19 k0_h2 => k0_hw19 k0_h2

def k0_chk20 (i : grid0.Coords) (v706 : IVec S16 32) : Prop :=
  (∀ (k0_h2 : k0_cond2 i = 1#1), ∀ a x, ((![v706] : Fin 1 → IVec S16 32) a x).toNat < S40960.size a)
theorem k0_idx22_inb : ∀ (i : grid0.Coords) (v706 : IVec S16 32) (k0_hw20 : k0_chk20 i v706), ∀ (k0_h2 : k0_cond2 i = 1#1), ∀ a x, ((![v706] : Fin 1 → IVec S16 32) a x).toNat < S40960.size a := fun i v706 k0_hw20 k0_h2 => k0_hw20 k0_h2

def k0_chk21 (i : grid0.Coords) (v710 : IVec S16 32) : Prop :=
  (∀ (k0_h2 : k0_cond2 i = 1#1), ∀ a x, ((![v710] : Fin 1 → IVec S16 32) a x).toNat < S40960.size a)
theorem k0_idx23_inb : ∀ (i : grid0.Coords) (v710 : IVec S16 32) (k0_hw21 : k0_chk21 i v710), ∀ (k0_h2 : k0_cond2 i = 1#1), ∀ a x, ((![v710] : Fin 1 → IVec S16 32) a x).toNat < S40960.size a := fun i v710 k0_hw21 k0_h2 => k0_hw21 k0_h2

def k0_chk22 (i : grid0.Coords) (v714 : IVec S16 32) : Prop :=
  (∀ (k0_h2 : k0_cond2 i = 1#1), ∀ a x, ((![v714] : Fin 1 → IVec S16 32) a x).toNat < S40960.size a)
theorem k0_idx24_inb : ∀ (i : grid0.Coords) (v714 : IVec S16 32) (k0_hw22 : k0_chk22 i v714), ∀ (k0_h2 : k0_cond2 i = 1#1), ∀ a x, ((![v714] : Fin 1 → IVec S16 32) a x).toNat < S40960.size a := fun i v714 k0_hw22 k0_h2 => k0_hw22 k0_h2

def k0_chk23 (i : grid0.Coords) (v718 : IVec S16 32) : Prop :=
  (∀ (k0_h2 : k0_cond2 i = 1#1), ∀ a x, ((![v718] : Fin 1 → IVec S16 32) a x).toNat < S40960.size a)
theorem k0_idx25_inb : ∀ (i : grid0.Coords) (v718 : IVec S16 32) (k0_hw23 : k0_chk23 i v718), ∀ (k0_h2 : k0_cond2 i = 1#1), ∀ a x, ((![v718] : Fin 1 → IVec S16 32) a x).toNat < S40960.size a := fun i v718 k0_hw23 k0_h2 => k0_hw23 k0_h2

def k0_chk24 (i : grid0.Coords) (v722 : IVec S16 32) : Prop :=
  (∀ (k0_h2 : k0_cond2 i = 1#1), ∀ a x, ((![v722] : Fin 1 → IVec S16 32) a x).toNat < S40960.size a)
theorem k0_idx26_inb : ∀ (i : grid0.Coords) (v722 : IVec S16 32) (k0_hw24 : k0_chk24 i v722), ∀ (k0_h2 : k0_cond2 i = 1#1), ∀ a x, ((![v722] : Fin 1 → IVec S16 32) a x).toNat < S40960.size a := fun i v722 k0_hw24 k0_h2 => k0_hw24 k0_h2

def k0_chk25 (i : grid0.Coords) (v726 : IVec S16 32) : Prop :=
  (∀ (k0_h2 : k0_cond2 i = 1#1), ∀ a x, ((![v726] : Fin 1 → IVec S16 32) a x).toNat < S40960.size a)
theorem k0_idx27_inb : ∀ (i : grid0.Coords) (v726 : IVec S16 32) (k0_hw25 : k0_chk25 i v726), ∀ (k0_h2 : k0_cond2 i = 1#1), ∀ a x, ((![v726] : Fin 1 → IVec S16 32) a x).toNat < S40960.size a := fun i v726 k0_hw25 k0_h2 => k0_hw25 k0_h2

def k0_chk26 (i : grid0.Coords) (v730 : IVec S16 32) : Prop :=
  (∀ (k0_h2 : k0_cond2 i = 1#1), ∀ a x, ((![v730] : Fin 1 → IVec S16 32) a x).toNat < S40960.size a)
theorem k0_idx28_inb : ∀ (i : grid0.Coords) (v730 : IVec S16 32) (k0_hw26 : k0_chk26 i v730), ∀ (k0_h2 : k0_cond2 i = 1#1), ∀ a x, ((![v730] : Fin 1 → IVec S16 32) a x).toNat < S40960.size a := fun i v730 k0_hw26 k0_h2 => k0_hw26 k0_h2

def k0_chk27 (i : grid0.Coords) (v2 : IVec S16 32) (v695 : IVec S16 32) : Prop :=
  (∀ (k0_h2 : k0_cond2 i = 1#1), ∀ a x, ((![v2, v695] : Fin 2 → IVec S16 32) a x).toNat < S16x64.size a) ∧
  (∀ (k0_h2 : k0_cond2 i = 1#1), ∀ a x, ((![v2, v695] : Fin 2 → IVec S16 32) a x).toNat < S16x64.size a)
theorem k0_idx29_inb : ∀ (i : grid0.Coords) (v2 : IVec S16 32) (v695 : IVec S16 32) (k0_hw27 : k0_chk27 i v2 v695), ∀ (k0_h2 : k0_cond2 i = 1#1), ∀ a x, ((![v2, v695] : Fin 2 → IVec S16 32) a x).toNat < S16x64.size a := fun i v2 v695 k0_hw27 k0_h2 => k0_hw27.1 k0_h2
theorem k0_idx30_inb : ∀ (i : grid0.Coords) (v2 : IVec S16 32) (v695 : IVec S16 32) (k0_hw27 : k0_chk27 i v2 v695), ∀ (k0_h2 : k0_cond2 i = 1#1), ∀ a x, ((![v2, v695] : Fin 2 → IVec S16 32) a x).toNat < S16x64.size a := fun i v2 v695 k0_hw27 k0_h2 => k0_hw27.2 k0_h2
@[reducible] def k0_t7_loop : Scf.Loop 32 :=
  let c2_i32_531 : BitVec 32 := 2#32
  let c3_i32_532 : BitVec 32 := 3#32
  let v685 : BitVec 32 := Scalar.addi c2_i32_531 c3_i32_532
  let c1_i32_533 : BitVec 32 := 1#32
  ⟨c2_i32_531, v685, c1_i32_533⟩
def k0_mult4 (k0_t7 : Fin k0_t7_loop.trips) : BitVec 32 :=
  let c2_i32_531 : BitVec 32 := 2#32
  let c1_i32_533 : BitVec 32 := 1#32
  let arg16 : BitVec 32 := Scf.iv c2_i32_531 c1_i32_533 k0_t7
  let c16_i32_535 : BitVec 32 := 16#32
  let v692 : BitVec 32 := Scalar.muli arg16 c16_i32_535
  v692
def k0_off8 (k0_t7 : Fin k0_t7_loop.trips) : Fin 1 → Nat :=
  let c2_i32_531 : BitVec 32 := 2#32
  let c1_i32_533 : BitVec 32 := 1#32
  let arg16 : BitVec 32 := Scf.iv c2_i32_531 c1_i32_533 k0_t7
  let c16_i32_535 : BitVec 32 := 16#32
  let v692 : BitVec 32 := Scalar.muli arg16 c16_i32_535
  let v693 : BitVec 32 := v692
  let v694 : Index := Scalar.indexCast v693
  ![v694.toNat]
@[reducible] def k0_t8_loop : Scf.Loop 32 :=
  let c0_i32_536 : BitVec 32 := 0#32
  let c16_i32_537 : BitVec 32 := 16#32
  let v696 : BitVec 32 := Scalar.addi c0_i32_536 c16_i32_537
  let c1_i32_538 : BitVec 32 := 1#32
  ⟨c0_i32_536, v696, c1_i32_538⟩

def k0_chk28 (i : grid0.Coords) (v702 : IVec S16 32) : Prop :=
  (∀ (k0_h2 : k0_cond2 i = 1#1), ∀ a x, ((![v702] : Fin 1 → IVec S16 32) a x).toNat < S40960.size a)
theorem k0_idx31_inb : ∀ (i : grid0.Coords) (v702 : IVec S16 32) (k0_hw28 : k0_chk28 i v702), ∀ (k0_h2 : k0_cond2 i = 1#1), ∀ a x, ((![v702] : Fin 1 → IVec S16 32) a x).toNat < S40960.size a := fun i v702 k0_hw28 k0_h2 => k0_hw28 k0_h2

def k0_chk29 (i : grid0.Coords) (v706 : IVec S16 32) : Prop :=
  (∀ (k0_h2 : k0_cond2 i = 1#1), ∀ a x, ((![v706] : Fin 1 → IVec S16 32) a x).toNat < S40960.size a)
theorem k0_idx32_inb : ∀ (i : grid0.Coords) (v706 : IVec S16 32) (k0_hw29 : k0_chk29 i v706), ∀ (k0_h2 : k0_cond2 i = 1#1), ∀ a x, ((![v706] : Fin 1 → IVec S16 32) a x).toNat < S40960.size a := fun i v706 k0_hw29 k0_h2 => k0_hw29 k0_h2

def k0_chk30 (i : grid0.Coords) (v710 : IVec S16 32) : Prop :=
  (∀ (k0_h2 : k0_cond2 i = 1#1), ∀ a x, ((![v710] : Fin 1 → IVec S16 32) a x).toNat < S40960.size a)
theorem k0_idx33_inb : ∀ (i : grid0.Coords) (v710 : IVec S16 32) (k0_hw30 : k0_chk30 i v710), ∀ (k0_h2 : k0_cond2 i = 1#1), ∀ a x, ((![v710] : Fin 1 → IVec S16 32) a x).toNat < S40960.size a := fun i v710 k0_hw30 k0_h2 => k0_hw30 k0_h2

def k0_chk31 (i : grid0.Coords) (v714 : IVec S16 32) : Prop :=
  (∀ (k0_h2 : k0_cond2 i = 1#1), ∀ a x, ((![v714] : Fin 1 → IVec S16 32) a x).toNat < S40960.size a)
theorem k0_idx34_inb : ∀ (i : grid0.Coords) (v714 : IVec S16 32) (k0_hw31 : k0_chk31 i v714), ∀ (k0_h2 : k0_cond2 i = 1#1), ∀ a x, ((![v714] : Fin 1 → IVec S16 32) a x).toNat < S40960.size a := fun i v714 k0_hw31 k0_h2 => k0_hw31 k0_h2

def k0_chk32 (i : grid0.Coords) (v718 : IVec S16 32) : Prop :=
  (∀ (k0_h2 : k0_cond2 i = 1#1), ∀ a x, ((![v718] : Fin 1 → IVec S16 32) a x).toNat < S40960.size a)
theorem k0_idx35_inb : ∀ (i : grid0.Coords) (v718 : IVec S16 32) (k0_hw32 : k0_chk32 i v718), ∀ (k0_h2 : k0_cond2 i = 1#1), ∀ a x, ((![v718] : Fin 1 → IVec S16 32) a x).toNat < S40960.size a := fun i v718 k0_hw32 k0_h2 => k0_hw32 k0_h2

def k0_chk33 (i : grid0.Coords) (v722 : IVec S16 32) : Prop :=
  (∀ (k0_h2 : k0_cond2 i = 1#1), ∀ a x, ((![v722] : Fin 1 → IVec S16 32) a x).toNat < S40960.size a)
theorem k0_idx36_inb : ∀ (i : grid0.Coords) (v722 : IVec S16 32) (k0_hw33 : k0_chk33 i v722), ∀ (k0_h2 : k0_cond2 i = 1#1), ∀ a x, ((![v722] : Fin 1 → IVec S16 32) a x).toNat < S40960.size a := fun i v722 k0_hw33 k0_h2 => k0_hw33 k0_h2

def k0_chk34 (i : grid0.Coords) (v726 : IVec S16 32) : Prop :=
  (∀ (k0_h2 : k0_cond2 i = 1#1), ∀ a x, ((![v726] : Fin 1 → IVec S16 32) a x).toNat < S40960.size a)
theorem k0_idx37_inb : ∀ (i : grid0.Coords) (v726 : IVec S16 32) (k0_hw34 : k0_chk34 i v726), ∀ (k0_h2 : k0_cond2 i = 1#1), ∀ a x, ((![v726] : Fin 1 → IVec S16 32) a x).toNat < S40960.size a := fun i v726 k0_hw34 k0_h2 => k0_hw34 k0_h2

def k0_chk35 (i : grid0.Coords) (v730 : IVec S16 32) : Prop :=
  (∀ (k0_h2 : k0_cond2 i = 1#1), ∀ a x, ((![v730] : Fin 1 → IVec S16 32) a x).toNat < S40960.size a)
theorem k0_idx38_inb : ∀ (i : grid0.Coords) (v730 : IVec S16 32) (k0_hw35 : k0_chk35 i v730), ∀ (k0_h2 : k0_cond2 i = 1#1), ∀ a x, ((![v730] : Fin 1 → IVec S16 32) a x).toNat < S40960.size a := fun i v730 k0_hw35 k0_h2 => k0_hw35 k0_h2

def k0_chk36 (i : grid0.Coords) (v2 : IVec S16 32) (v695 : IVec S16 32) : Prop :=
  (∀ (k0_h2 : k0_cond2 i = 1#1), ∀ a x, ((![v2, v695] : Fin 2 → IVec S16 32) a x).toNat < S16x64.size a) ∧
  (∀ (k0_h2 : k0_cond2 i = 1#1), ∀ a x, ((![v2, v695] : Fin 2 → IVec S16 32) a x).toNat < S16x64.size a)
theorem k0_idx39_inb : ∀ (i : grid0.Coords) (v2 : IVec S16 32) (v695 : IVec S16 32) (k0_hw36 : k0_chk36 i v2 v695), ∀ (k0_h2 : k0_cond2 i = 1#1), ∀ a x, ((![v2, v695] : Fin 2 → IVec S16 32) a x).toNat < S16x64.size a := fun i v2 v695 k0_hw36 k0_h2 => k0_hw36.1 k0_h2
theorem k0_idx40_inb : ∀ (i : grid0.Coords) (v2 : IVec S16 32) (v695 : IVec S16 32) (k0_hw36 : k0_chk36 i v2 v695), ∀ (k0_h2 : k0_cond2 i = 1#1), ∀ a x, ((![v2, v695] : Fin 2 → IVec S16 32) a x).toNat < S16x64.size a := fun i v2 v695 k0_hw36 k0_h2 => k0_hw36.2 k0_h2
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_512_r2 : BitVec 32 := 0#32
  ![v1.toNat, 0]
abbrev grid1 : Pipeline.Grid := .none

abbrev stage1_0 : Fin 1 → Memref sig .tc .vmem S32x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x4 : Shape := ⟨2, ![320000, 4]⟩
abbrev S64x8 : Shape := ⟨2, ![64, 8]⟩
abbrev S10000 : Shape := ⟨1, ![10000]⟩
abbrev S_ : Shape := ⟨0, ![]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩
abbrev S64x136 : Shape := ⟨2, ![64, 136]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S64x8, .f32⟩
  | .hbm, ⟨4, _⟩ => ⟨S10000, .i32⟩
  | .hbm, ⟨5, _⟩ => ⟨S_, .f32⟩
  | .hbm, ⟨6, _⟩ => ⟨S64x128, .f32⟩
  | .hbm, ⟨7, _⟩ => ⟨S10000x1, .i32⟩
  | .hbm, ⟨8, _⟩ => ⟨S64x128, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S64, .f32⟩
  | .hbm, ⟨13, _⟩ => ⟨S10000x1, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S64x128, .f32⟩
  | .hbm, ⟨20, _⟩ => ⟨S64x128, .f32⟩
  | .hbm, ⟨21, _⟩ => ⟨S64x136, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Proof.Landing.lean ====
/-
  A destination that may be READ while a copy of the same core is still landing in it.

  The core starts a copy into a part of one of its buffers and, before it waits for the copy, loads the whole buffer,
  going on to use only elements outside that part. The elements under way sit in an invariant, at the launch contents
  with the copied values written at the indices landed so far; a counter of the core's own says which those are. The
  core keeps a token of the invariant: with it the core opens the invariant for one load, and, after the wait has handed
  back the counter standing at "all landed", takes the elements out for good.
-/
module

public import Idealize.ShloMosaic.Lib.Transfers
public import Idealize.ShloMosaic.Lib.Tactic

@[expose] public section

noncomputable section

namespace Cert.Proof.Landing

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))

/-- A set of indices as a number: nought for the empty set. -/
def code {s : Shape} (M : Finset s.Idx) : ℕ :=
  open Classical in if M = ∅ then 0 else (Fintype.equivFin (Finset s.Idx) M).val + 1

theorem code_empty {s : Shape} : code (s := s) ∅ = 0 := if_pos rfl

theorem code_inj {s : Shape} {M M' : Finset s.Idx} (h : code M = code M') : M = M' := by
  classical
  unfold code at h
  split at h <;> split at h
  · rename_i h₁ h₂; rw [h₁, h₂]
  · omega
  · omega
  · have h' : (Fintype.equivFin (Finset s.Idx) M).val = (Fintype.equivFin (Finset s.Idx) M').val := by
      have := h; simp only [Nat.add_right_cancel_iff] at this; convert this
    exact (Fintype.equivFin (Finset s.Idx)).injective (Fin.ext h')

/-- What the invariant holds: the elements `S` at the contents `fs M` once the indices `M` have landed, with the counter
    `γ` at `M`; or, taken out, the core's token and the counter's fragment at everything landed. -/
def body {s : Shape} (ℓ : Loc nD τ sig) (S : Finset (Idx ℓ)) (fs : Finset s.Idx → Buf Val ℓ) (γ δ : ℕ) : sProp 𝕄 :=
  iprop((∃ M : Finset s.Idx, countAuth EC γ (code M) ∗ (ℓ ↦[S]{fullShare} fs M))
    ∨ (tok EC δ ∗ count EC γ (code (Finset.univ : Finset s.Idx))))

instance body_storable [EC.LandsIn (upEmb : UEmb _ 𝕄)] {s : Shape} (ℓ : Loc nD τ sig) (S : Finset (Idx ℓ))
    (fs : Finset s.Idx → Buf Val ℓ) (γ δ : ℕ) : Storable (upEmb : UEmb _ 𝕄) (body EC ℓ S fs γ δ) := by
  unfold body tok countAuth count; infer_instance

variable [Preorder Lvl]

/-- The invariant set up from the elements at `fs ∅`. -/
theorem land_alloc [Infinite Name] [EC.LandsIn (upEmb : UEmb _ 𝕄)] {s : Shape} {ℓ : Loc nD τ sig} {S : Finset (Idx ℓ)}
    (fs : Finset s.Idx → Buf Val ℓ) {E : Set Name} :
    (ℓ ↦[S]{fullShare} fs ∅ : sProp 𝕄) ⊢ |={E}=> iprop(∃ γ δ ι, inv ι (body EC ℓ S fs γ δ) ∗ count EC γ 0 ∗ tok EC δ) := by
  iintro Hv
  imod (count_alloc EC ∅) $$ [] with ⟨%γ, -, Hγa, Hγ⟩; · iempintro
  imod (count_alloc EC ∅) $$ [] with ⟨%δ, -, -, Hδ⟩; · iempintro
  imod (inv_alloc (P := body EC ℓ S fs γ δ) (E := E)) $$ [Hv Hγa] with ⟨%ι, Hinv⟩
  · unfold body
    ileft; iexists (∅ : Finset s.Idx)
    rw [code_empty]
    isplitl [Hγa] <;> iassumption
  imodintro
  iexists γ, δ, ι
  isplitl [Hinv]; · iexact Hinv
  isplitl [Hγ] <;> iassumption

/-- The copy's writes, each made inside the invariant: they leave the counter at everything landed. -/
theorem writeUpdate_landing [EC.LandsIn (upEmb : UEmb _ 𝕄)] (c : Thread nD τ) {sp : Space} {s : Shape} {e : EltTy}
    {v : View sig c.2.kind sp s e} {w : s.Idx → Val e} {S : Finset (Idx (v.loc c))} {f₀ : Buf Val (v.loc c)} (hS : v.set ⊆ S)
    {γ δ : ℕ} {ι : Name} :
    iprop(inv ι (body EC (v.loc c) S (fun M => v.write Val f₀ w M) γ δ) ∗ count EC γ 0)
      ⊢ writeUpdate c v w (count EC γ (code (Finset.univ : Finset s.Idx))) := by
  rw [writeUpdate, writeUpdateFrom_def]
  iintro ⟨#Hinv, Hγ⟩
  iexists (fun M => count EC γ (code M))
  isplitl [Hγ]; · simp only [code_empty]; iexact Hγ
  isplitr
  · rw [writeSteps_def]
    imodintro
    iintro %M %M' Hγ
    imod (inv_acc (Set.mem_univ ι)) $$ Hinv with ⟨Hb, Hclose⟩
    unfold body
    icases Hb with (⟨%M₁, Hγa, Hpt⟩ | ⟨-, Hγ'⟩)
    · icombine Hγa Hγ gives %hM
      obtain rfl := code_inj hM
      imodintro
      rw [storeSpec_apply]
      iexists S, (v.write Val f₀ w M)
      isplitl [Hpt]; · iexact Hpt
      isplitr; · ipureintro; exact fun i hi => hS (v.setOn_subset_set _ hi)
      iintro Hpt
      rw [View.write_write_union]
      imod (countAuth_count_update EC (code (M ∪ M'))) $$ [Hγa Hγ] with ⟨Hγa, Hγ⟩; · isplitl [Hγa] <;> iassumption
      ihave Hc := Hclose $$ [Hγa Hpt]
      · ileft; iexists (M ∪ M')
        isplitl [Hγa] <;> iassumption
      imod Hc
      imodintro
      iexact Hγ
    · iexfalso; iapply (count_count_false EC); isplitl [Hγ'] <;> iassumption
  · iintro Hγ; iexact Hγ

/-- After the wait: the elements, everything landed, out of the invariant. -/
theorem take [EC.LandsIn (upEmb : UEmb _ 𝕄)] {s : Shape} {ℓ : Loc nD τ sig} {S : Finset (Idx ℓ)}
    {fs : Finset s.Idx → Buf Val ℓ} {γ δ : ℕ} {ι : Name} {E : Set Name} (hE : ι ∈ E) :
    iprop(inv ι (body EC ℓ S fs γ δ) ∗ tok EC δ ∗ count EC γ (code (Finset.univ : Finset s.Idx)))
      ⊢ |={E}=> (ℓ ↦[S]{fullShare} fs Finset.univ : sProp 𝕄) := by
  iintro ⟨#Hinv, Hδ, Hγ⟩
  imod (inv_acc hE) $$ Hinv with ⟨Hb, Hclose⟩
  unfold body
  icases Hb with (⟨%M₁, Hγa, Hpt⟩ | ⟨Hδ', -⟩)
  · icombine Hγa Hγ gives %hM
    obtain rfl := code_inj hM
    ihave Hc := Hclose $$ [Hδ Hγ]
    · iright; isplitl [Hδ] <;> iassumption
    imod Hc
    imodintro
    iexact Hpt
  · iexfalso; iapply (tok_tok_false EC); isplitl [Hδ'] <;> iassumption

section Rules

variable {Λ : Labels} {defs : Defs nD τ sig Val Λ} (𝒱 : Variants) (c : Thread nD τ) (bd : Option 𝒱.V)

/-- `P` lets a program load the whole of `m`, learning of what it loads that it agrees with `g` on the indices `A`. -/
def Loads {cs : CoreSpace} {s : Shape} {e : EltTy} (defs : Defs nD τ sig Val Λ) (𝒱 : Variants) (c : Thread nD τ) (bd : Option 𝒱.V)
    (m : Memref sig c.2.kind cs s e) (P : sProp 𝕄) (g : s.Idx → Val e) (A : s.Idx → Prop) : Prop :=
  ∀ {α : Type} (hl : m.view.LoadsAt (LoadRect.whole s)) (k : ((LoadRect.whole s).shape.Idx → Val e) → Prog (TpuEff nD τ sig Val Λ c.2) α) (Q : α → sProp 𝕄),
    iprop(P ∗ (∀ f : s.Idx → Val e, ⌜∀ i, A i → f i = g i⌝ -∗ P -∗ wp frame (wpE defs 𝒱 c bd) Set.univ (k f) Q))
      ⊢ wp frame (wpE defs 𝒱 c bd) Set.univ (.op (.load m (LoadRect.whole s) hl) k) Q

/-- Holding the whole buffer, at any share, a program loads what it holds. -/
theorem loads_held {cs : CoreSpace} {s : Shape} {e : EltTy} (m : Memref sig c.2.kind cs s e) {q : PosShare TreeShare} {f : Buf Val (m.view.loc c)}
    {g : s.Idx → Val e} {A : s.Idx → Prop} (hA : ∀ i, A i → m.view.readAt Val (LoadRect.whole s) f i = g i) :
    Loads defs 𝒱 c bd m (m.view.loc c ↦[Finset.univ]{q} f : sProp 𝕄) g A := by
  intro α hl k Q
  iintro ⟨Hp, Hk⟩
  iapply (wp_load 𝒱 c bd Set.univ (m := m) (S := Finset.univ) (Finset.subset_univ _)) $$ Hp
  iintro Hp
  iapply Hk $$ %_ %hA Hp

/-- While a copy lands in the part `S`, holding the rest `T`, a program loads the whole buffer, learning what is in
    the rest. -/
theorem loads_landing [EC.LandsIn (upEmb : UEmb _ 𝕄)] {cs : CoreSpace} {s s' : Shape} {e : EltTy} (m : Memref sig c.2.kind cs s e)
    {S T : Finset (Idx (m.view.loc c))} (hd : Disjoint T S) (hu : T ∪ S = Finset.univ) {f : Buf Val (m.view.loc c)}
    {fs : Finset s'.Idx → Buf Val (m.view.loc c)} {γ δ : ℕ} {ι : Name} {g : s.Idx → Val e} {A : s.Idx → Prop}
    (hA : ∀ h : Buf Val (m.view.loc c), (∀ i ∈ T, h i = f i) → ∀ i, A i → m.view.readAt Val (LoadRect.whole s) h i = g i) :
    Loads defs 𝒱 c bd m iprop((m.view.loc c ↦[T]{fullShare} f) ∗ inv ι (body EC (m.view.loc c) S fs γ δ) ∗ tok EC δ) g A := by
  intro α hl k Q
  iintro ⟨⟨Hp, #Hinv, Hδ⟩, Hk⟩
  imod (inv_acc (Set.mem_univ ι)) $$ Hinv with ⟨Hb, Hclose⟩
  unfold body
  icases Hb with (⟨%M, Hγa, Hpt⟩ | ⟨Hδ', -⟩)
  · ihave Hj := (pointsTo_join hd) $$ [Hp Hpt]
    · isplitl [Hp] <;> iassumption
    rw [hu]
    imodintro
    iapply (fp_load c (m := m) (S := Finset.univ) (Finset.subset_univ _)) $$ Hj
    iintro Hj
    ihave Hs := (Entails.of_eq (congrArg (fun X => (m.view.loc c ↦[X]{fullShare} S.piecewise (fs M) f : sProp 𝕄)) hu.symm)) $$ Hj
    ihave Hs' := (pointsTo_union hd).1 $$ Hs
    icases Hs' with ⟨HT, HS⟩
    ihave HT := (Entails.of_eq (pointsTo_congr (I := T) (f := S.piecewise (fs M) f) (g := f) fun i hi =>
      Finset.piecewise_eq_of_notMem S _ _ (Finset.disjoint_left.mp hd hi))) $$ HT
    ihave HS := (Entails.of_eq (pointsTo_congr (I := S) (f := S.piecewise (fs M) f) (g := fs M) fun i hi =>
      Finset.piecewise_eq_of_mem S _ _ hi)) $$ HS
    ihave Hc := Hclose $$ [Hγa HS]
    · ileft; iexists M
      isplitl [Hγa] <;> iassumption
    imod Hc
    imodintro
    iapply Hk $$ %_ %(hA _ fun i hi => Finset.piecewise_eq_of_notMem S _ _ (Finset.disjoint_left.mp hd hi))
    isplitl [HT]; · iexact HT
    isplitr; · iexact Hinv
    iexact Hδ
  · iexfalso; iapply (tok_tok_false EC); isplitl [Hδ'] <;> iassumption

/-- A copy started into elements that will be read before its wait: the core is left with the invariant of the elements
    under way, its token, and the flight, which hands back the counter at everything landed and the source. -/
theorem wp_dmaLanding [Infinite Name] [EC.LandsIn (upEmb : UEmb _ 𝕄)] {sp sp' : Space} {s s₀ : Shape} {e e₀ : EltTy} {α : Type}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {Q : α → sProp 𝕄} {q : PosShare TreeShare} {fs : Buf Val (src.view.loc c)}
    {Sd : Finset (Idx (dst.view.loc c))} {fd : Buf Val (dst.view.loc c)}
    (ι : Ix) (N : ℕ) (hN : dst.view.amount sm = N) (hN0 : 0 < N) (hSd : dst.view.set ⊆ Sd) :
    iprop((src.view.loc c ↦[src.view.set]{q} fs) ∗ (dst.view.loc c ↦[Sd]{fullShare} fd) ∗ semVal (c, sm) 0)
      ⊢ iprop((∀ γ δ κ, inv κ (body EC (dst.view.loc c) Sd (fun M => dst.view.write Val fd (via.apply (src.view.read Val fs)) M) γ δ)
              -∗ tok EC δ
              -∗ Flight EC c sm ι N iprop(count EC γ (code (Finset.univ : Finset s.Idx)) ∗ (src.view.loc c ↦[src.view.set]{q} fs))
              -∗ wp frame (wpE defs 𝒱 c bd) Set.univ (k ⟨⟩) Q)
          -∗ wp frame (wpE defs 𝒱 c bd) Set.univ (.op (.enqueueDmaAs src (.here dst) via sm hsrc hdst hsem) k) Q) := by
  iintro ⟨Hs, Hd, Hv⟩ Hk
  imod (land_alloc EC (ℓ := dst.view.loc c) (S := Sd) (fun M : Finset s.Idx => dst.view.write Val fd (via.apply (src.view.read Val fs)) M) (E := Set.univ)) $$ [Hd]
    with ⟨%γ, %δ, %κ, #Hinv, Hγ, Hδ⟩
  · rw [View.write_empty]; iexact Hd
  imod (flight_alloc EC hN0 iprop(count EC γ (code (Finset.univ : Finset s.Idx)) ∗ (src.view.loc c ↦[src.view.set]{q} fs))
      (g := (c, sm))) $$ Hv with ⟨%γ', %δ', %κ', #Hinv', Hγ', Hδ'⟩
  iapply (wp_enqueueDmaAs 𝒱 c bd Set.univ ι N hN) $$ [Hs Hγ] [Hγ']
  · isplitl [Hs]; · iexact Hs
    iapply (writeUpdate_landing EC c hSd)
    isplitr; · iexact Hinv
    iexact Hγ
  · iapply (flight_creditUpdate EC (δ := δ'))
    isplitr; · iexact Hinv'
    iexact Hγ'
  iintro Hcred
  iapply Hk $$ %γ %δ %κ Hinv Hδ
  iapply (flight_intro EC c (κ := κ'))
  isplitr; · iexact Hinv'
  isplitl [Hδ'] <;> iassumption

end Rules

end Cert.Proof.Landing

end
-- ==== Proof.Model.lean ====
/-
  What the SparseCore tiles compute, as functions of numbers over any float values: the order in which a lane visits
  the columns of its node, the two running sums of a node's row, the running table of sums (one row per lane, one column
  per graph) and of counts, and the sum of a table's column. With it, the words of the kernel's index vectors.
-/
module

public import proofs.«01_k».proof.Proof.Gen.KernelIdeal.Skeleton

@[expose] public section

noncomputable section

namespace Cert.Proof.Model

open Idealize.ShloMosaic
open Cert.KernelIdeal Cert.KernelIdeal.Gen

section Values

variable {F : FTy → Type} [FloatOps F]

/-- The constant nought the kernel starts its sums from. -/
def zero : F .f32 := Scalar.ofBits .f32 0x00000000#32
/-- The constant one the kernel counts with. -/
def one : F .f32 := Scalar.ofBits .f32 0x3F800000#32

/-- Where lane `l` finds the element it takes from group `t` at step `j`, `k`-th of eight. -/
def at' (t l k j : ℕ) : ℕ := 2048 * t + 128 * l + ((l ^^^ k) ^^^ (8 * j))

/-- The running sum of lane `l`'s row in group `t` over the even elements of the first `j` steps, -/
def acc0 (X : ℕ → F .f32) (t l : ℕ) : ℕ → F .f32
  | 0 => zero
  | j + 1 => FloatOps.addf (FloatOps.addf (FloatOps.addf (FloatOps.addf (acc0 X t l j) (X (at' t l 0 j))) (X (at' t l 2 j))) (X (at' t l 4 j))) (X (at' t l 6 j))
/-- and over the odd ones. -/
def acc1 (X : ℕ → F .f32) (t l : ℕ) : ℕ → F .f32
  | 0 => zero
  | j + 1 => FloatOps.addf (FloatOps.addf (FloatOps.addf (FloatOps.addf (acc1 X t l j) (X (at' t l 1 j))) (X (at' t l 3 j))) (X (at' t l 5 j))) (X (at' t l 7 j))

/-- The sum of lane `l`'s row in group `t`. -/
def row (X : ℕ → F .f32) (t l : ℕ) : F .f32 := FloatOps.addf (acc0 X t l 16) (acc1 X t l 16)

/-- A table after `t` groups: lane `l`, graph `g`, each group adding `v` of its node where the node is the graph's. -/
def table (B : ℕ → ℕ) (v : ℕ → ℕ → F .f32) (l g : ℕ) : ℕ → F .f32
  | 0 => zero
  | t + 1 => if B (16 * t + l) = g then FloatOps.idxAddf (table B v l g t) (v t l) else table B v l g t

/-- A column's sum over the lanes, from the first: the first `n + 1` of them. -/
def col (f : ℕ → F .f32) : ℕ → F .f32
  | 0 => f 0
  | n + 1 => FloatOps.addf (col f n) (f (n + 1))

/-- What a tile of `n` groups writes for graph `g`: the sums, -/
def sumsOf (X : ℕ → F .f32) (B : ℕ → ℕ) (n g : ℕ) : F .f32 := col (fun l => table B (row X) l g n) 15
/-- and the counts. -/
def cntsOf (B : ℕ → ℕ) (n g : ℕ) : F .f32 := col (fun l => table B (fun _ _ => one) l g n) 15

end Values

/-! ## The words -/

/-- An xor with a number of seven bits keeps a number of seven bits below 128. -/
theorem xor_lt {a b : ℕ} (ha : a < 128) (hb : b < 128) : a ^^^ b < 128 := Nat.xor_lt_two_pow (n := 7) ha hb

theorem at_lt {t l k j : ℕ} (n : ℕ) (ht : t < n) (hl : l < 16) (hk : k < 8) (hj : j < 16) : at' t l k j < 2048 * n := by
  have := xor_lt (xor_lt (a := l) (b := k) (by omega) (by omega)) (b := 8 * j) (by omega)
  unfold at'; omega

/-- The word of an index vector: the group's base, the lane's row, and the lane's column at this step. -/
theorem word (bs kk jj l : BitVec 32) (t k j : ℕ) (hb : bs.toNat = 2048 * t) (ht : t < 20) (hk : kk.toNat = k) (hk8 : k < 8)
    (hj : jj.toNat = 8 * j) (hj16 : j < 16) (hl : l.toNat < 16) :
    (bs + l * 128#32 + ((l ^^^ kk) ^^^ jj)).toNat = at' t l.toNat k j := by
  have hx := xor_lt (xor_lt (a := l.toNat) (b := k) (by omega) (by omega)) (b := 8 * j) (by omega)
  have h1 : (l * 128#32).toNat = 128 * l.toNat := by
    rw [BitVec.toNat_mul]; show l.toNat * 128 % 4294967296 = _; omega
  rw [BitVec.toNat_add, BitVec.toNat_add, h1, BitVec.toNat_xor, BitVec.toNat_xor, hb, hk, hj]
  unfold at'; omega

/-- The induction variable of a loop from `lo`, step one. -/
theorem iv_toNat (lo : ℕ) (hlo : lo < 1000) (k : ℕ) (hk : k < 1000) : (Scf.iv (BitVec.ofNat 32 lo) 1#32 k).toNat = lo + k := by
  unfold Scf.iv
  rw [BitVec.toNat_add, BitVec.toNat_mul, BitVec.toNat_ofNat, BitVec.toNat_ofNat]
  show (lo % 4294967296 + k % 4294967296 * 1 % 4294967296) % 4294967296 = _
  omega

theorem muli_toNat (a : BitVec 32) (n m : ℕ) (ha : a.toNat = n) (hn : n < 1000) (hm : m ≤ 2048) :
    (Scalar.muli a (BitVec.ofNat 32 m)).toNat = m * n := by
  show (a * BitVec.ofNat 32 m).toNat = _
  rw [BitVec.toNat_mul, ha, BitVec.toNat_ofNat, Nat.mod_eq_of_lt (a := m) (by omega), Nat.mul_comm]
  apply Nat.mod_eq_of_lt
  exact Nat.lt_of_le_of_lt (Nat.mul_le_mul hm (Nat.le_of_lt hn)) (by decide)

/-! ## The scatter -/

section Scatter

variable {F : FTy → Type} [FloatOps F]

/-- A lane of sixteen. -/
abbrev lane (k : Fin 16) : S16.Idx := Shape.ofLane (d := ![16]) k

theorem lane_val (k : Fin 16) : ((lane k) 0).val = k.val := rfl

theorem lane_self (x : S16.Idx) : lane (x 0) = x := by
  funext a; obtain rfl : a = 0 := Subsingleton.elim _ _; rfl

/-- The scatter's steps over some of the lanes: each lane adds into its own row only. -/
theorem scatter_fold (v2 b : IVec S16 32) (hv2 : ∀ x, (v2 x).toNat = (x 0).val) (v : Vec F S16 .f32)
    (h : ∀ a x, ((![v2, b] : Fin 2 → IVec S16 32) a x).toNat < S16x64.size a) (j : S16x64.Idx) (J : Fin 16) (hJ : J.val = (j 0).val)
    (step : Vec F S16x64 .f32 → Fin 16 → Vec F S16x64 .f32)
    (hpos : ∀ g k, (∀ a, (j a).val = (idxAt (s := S16x64) ![v2, b] h (lane k) a).val)
      → step g k j = FloatOps.idxAddf (g (idxAt (s := S16x64) ![v2, b] h (lane k))) (v (lane k)))
    (hneg : ∀ g k, ¬ (∀ a, (j a).val = (idxAt (s := S16x64) ![v2, b] h (lane k) a).val) → step g k j = g j) :
    ∀ (ks : List (Fin 16)) (_ : ks.Nodup) (g : Vec F S16x64 .f32),
      ks.foldl step g j = if J ∈ ks ∧ (b (lane J)).toNat = (j 1).val then FloatOps.idxAddf (g j) (v (lane J)) else g j := by
  intro ks
  induction ks with
  | nil => intro _ g; simp
  | cons k ks ih =>
    intro hnd g
    rw [List.nodup_cons] at hnd
    rw [List.foldl_cons, ih hnd.2]
    have hi : (∀ a, (j a).val = (idxAt (s := S16x64) ![v2, b] h (lane k) a).val) ↔ J = k ∧ (b (lane k)).toNat = (j 1).val := by
      constructor
      · intro hall
        exact ⟨Fin.ext (hJ.trans ((hall 0).trans (hv2 (lane k)))), (hall 1).symm⟩
      · rintro ⟨h0, h1⟩ a
        match a with
        | 0 => exact hJ.symm.trans ((congrArg Fin.val h0).trans (hv2 (lane k)).symm)
        | 1 => exact h1.symm
    by_cases hk : J = k
    · subst hk
      rw [if_neg (fun hc => hnd.1 hc.1)]
      by_cases hb : (b (lane J)).toNat = (j 1).val
      · have hj : idxAt (s := S16x64) ![v2, b] h (lane J) = j := funext fun a => Fin.ext ((hi.mpr ⟨rfl, hb⟩ a).symm)
        rw [hpos _ _ (hi.mpr ⟨rfl, hb⟩), if_pos ⟨List.mem_cons_self, hb⟩, hj]
      · rw [hneg _ _ (fun hc => hb (hi.mp hc).2), if_neg (fun hc => hb hc.2)]
    · have hn : ¬ (∀ a, (j a).val = (idxAt (s := S16x64) ![v2, b] h (lane k) a).val) := fun hc => hk (hi.mp hc).1
      rw [hneg _ _ hn]
      simp only [List.mem_cons, hk, false_or]

/-- What the scatter leaves in a lane's row: the lane's value added where the lane's word names the column. -/
theorem scatter (v2 b : IVec S16 32) (hv2 : ∀ x, (v2 x).toNat = (x 0).val) (v : Vec F S16 .f32) (f : Vec F S16x64 .f32)
    (h : ∀ a x, ((![v2, b] : Fin 2 → IVec S16 32) a x).toNat < S16x64.size a) (j : S16x64.Idx) (J : Fin 16) (hJ : J.val = (j 0).val) :
    storeIdx (d := ![16]) f (![v2, b] : Fin 2 → IVec S16 32) v (fun _ => 1#1) true h j
      = if (b (lane J)).toNat = (j 1).val then FloatOps.idxAddf (f j) (v (lane J)) else f j := by
  unfold storeIdx
  refine (scatter_fold v2 b hv2 v h j J hJ _ ?_ ?_ (List.finRange 16) (List.nodup_finRange _) f).trans ?_
  · intro g k hc
    exact (congrFun (if_pos rfl) j).trans (if_pos hc)
  · intro g k hc
    exact (congrFun (if_pos rfl) j).trans (if_neg hc)
  · simp only [List.mem_finRange, true_and]

end Scatter

end Cert.Proof.Model

end
-- ==== Proof.Setup.lean ====
/-
  The kernel as the SparseCore launch theorem sees it: the body tables, the resource algebra (the handshakes' rounds, the
  combining region's rounds, the copies' counters), and the buffers by name. `F` is any float values.
-/
module

public import proofs.«01_k».proof.Defs
public import proofs.«01_k».proof.Proof.Landing
public import proofs.«01_k».proof.Proof.Model
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Transfers
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernel's prefetched arguments: none. -/
abbrev adm : (p : Fin 1) → (pcfgs (F := F) p).Adm := fun p => (cfgs p).toPCfg_adm
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the combining region's rounds, -/
abbrev UP : Type := URounds (GSem nD τ sig) Unit
/-- and, beside them, the copies' counters. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

/-! ## A tile's coordinates, and its thread -/

abbrev cV (i : grid0.Coords) : Fin τ.nSC := (i 0).castLE hcore0
abbrev jV (i : grid0.Coords) : Fin τ.nSub := (i 1).castLE hsub0
/-- The tile `i` of device `d`. -/
abbrev tV (d : Dev nD) (i : grid0.Coords) : Thread nD τ := V d (cV i) (jV i)
/-- The tile's number among the thirty-two: SparseCore major. -/
def wid (i : grid0.Coords) : ℕ := 16 * (i 0).val + (i 1).val

/-! ## The tile's buffers, as the kernel's body is called with them -/

abbrev xM : Memref sig .scVector .hbm S1280000 .f32 := Memref.whole main_v0_scv
abbrev bM : Memref sig .scVector .hbm S10000 .i32 := Memref.whole main_arg4_scv
abbrev oM : Memref sig .scVector .hbm S32x64 .f32 := Memref.whole main_v1_0_scv
abbrev nM : Memref sig .scVector .hbm S32x64 .f32 := Memref.whole main_v1_1_scv
abbrev xvM : Memref sig .scVector .vmem S40960 .f32 := Memref.whole cc0_scratch0
abbrev bvM : Memref sig .scVector .vmem S320 .i32 := Memref.whole cc0_scratch1
abbrev spM : Memref sig .scVector .vmem S16x64 .f32 := Memref.whole cc0_scratch2
abbrev cpM : Memref sig .scVector .vmem S16x64 .f32 := Memref.whole cc0_scratch3
abbrev svM : Memref sig .scVector .vmem S64 .f32 := Memref.whole cc0_scratch4
abbrev cvM : Memref sig .scVector .vmem S64 .f32 := Memref.whole cc0_scratch5

/-- The whole of one of a tile's buffers, outright, at contents `f`. -/
abbrev held {sp : Space} {s : Shape} {e : EltTy} (d : Dev nD) (i : grid0.Coords) (m : Memref sig .scVector sp s e)
    (f : Buf (Elt F) (m.view.loc (tV d i))) : sProp 𝕄 := m.view.loc (tV d i) ↦[Finset.univ]{fullShare} f

end Cert.Proof

end
-- ==== Proof.Gather.lean ====
/-
  The loops over a node group's columns: each step gathers eight vectors, one column a lane, and adds them into two
  running sums.
-/
module

public import proofs.«01_k».proof.Proof.Setup

@[expose] public section

noncomputable section

namespace Cert.Proof.Gather

open Cert.KernelIdeal Cert.KernelIdeal.Gen Cert.Proof.Landing Cert.Proof.Model

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The words of the index vectors -/

/-- A group's base word. -/
theorem base (lo : ℕ) (hlo : lo < 20) (t : ℕ) (ht : t < 20) (hlt : lo + t < 20) :
    (Scalar.muli (Scf.iv (BitVec.ofNat 32 lo) 1#32 t) 2048#32).toNat = 2048 * (lo + t) :=
  muli_toNat _ _ 2048 (iv_toNat lo (by omega) t (by omega)) (by omega) (by omega)

/-- A step's column word. -/
theorem step (j : ℕ) (hj : j < 16) : (Scalar.muli (Scf.iv 0#32 1#32 j) 8#32).toNat = 8 * j :=
  (muli_toNat _ _ 8 (iv_toNat 0 (by omega) j (by omega)) (by omega) (by omega)).trans (by omega)

/-- The word a lane gathers at. -/
theorem lane_word (v2 : IVec S16 32) (hv2 : ∀ x, (v2 x).toNat = (x 0).val) (kk : BitVec 32) (k : ℕ) (hk : kk.toNat = k) (hk8 : k < 8)
    (lo : ℕ) (t : ℕ) (hlo : lo < 20) (hlt : lo + t < 20) (j : ℕ) (hj : j < 16) (x : S16.Idx) :
    (Scalar.muli (Scf.iv (BitVec.ofNat 32 lo) 1#32 t) 2048#32 + v2 x * 128#32
        + ((v2 x ^^^ kk) ^^^ Scalar.muli (Scf.iv 0#32 1#32 j) 8#32)).toNat = at' (lo + t) (x 0).val k j := by
  rw [word _ kk _ (v2 x) (lo + t) k j (base lo hlo t (by omega) hlt) hlt hk hk8 (step j hj) hj (by rw [hv2]; exact (x 0).isLt), hv2]

/-! ## One gather -/

variable (d : Dev nD) (i : grid0.Coords)

/-- One gather of the table: under the evidence that the words name loaded elements, lane by lane it reads them. -/
theorem gather {m : Memref sig .scVector .vmem S40960 .f32} {P : sProp 𝕄} {X : ℕ → F .f32} {n : ℕ}
    (hL : Loads (cs := .vmem) defs₀ 𝒱₀ (tV d i) none m P (fun j => X (j 0).val) (fun j => (j 0).val < n))
    (N : ℕ → ℕ) (hN : ∀ l < 16, N l < n) (hn : n ≤ 40960)
    {v : IVec S16 32} (hv : ∀ x, (v x).toNat = N (x 0).val) {chk : Prop} {dec : Decidable chk}
    (hchk : (∀ a x, ((![v] : Fin 1 → IVec S16 32) a x).toNat < S40960.size a) → chk)
    {hidx : chk → ∀ a x, ((![v] : Fin 1 → IVec S16 32) a x).toNat < S40960.size a} {hl : m.view.Loads}
    {α : Type} {k : Vec F S16 .f32 → Prog (TpuEff nD τ sig (Elt F) Λ₀ (tV d i).2) α} {Q : α → sProp 𝕄}
    (hk : ∀ w : Vec F S16 .f32, (∀ x, w x = X (N (x 0).val)) → P ⊢ wp frame (wpE defs₀ 𝒱₀ (tV d i) none) Set.univ (k w) Q) :
    P ⊢ wp frame (wpE defs₀ 𝒱₀ (tV d i) none) Set.univ
        (Prog.lift (TpuEff.assume chk dec) >>= fun hw => SparseCore.vectorLoadIdx m ![v] (hidx hw.down) hl >>= k) Q := by
  have hin : ∀ a x, ((![v] : Fin 1 → IVec S16 32) a x).toNat < S40960.size a := by
    intro a x
    obtain rfl : a = 0 := Subsingleton.elim _ _
    show (v x).toNat < 40960
    rw [hv]; exact Nat.lt_of_lt_of_le (hN _ (x 0).isLt) hn
  show _ ⊢ wp _ _ _ (.op (TpuEff.assume chk dec) fun hw => SparseCore.vectorLoadIdx m ![v] (hidx hw.down) hl >>= k) Q
  rw [wp_assume_of 𝒱₀ (tV d i) none Set.univ (hchk hin)]
  show _ ⊢ wp _ _ _ (.op (.load m (.whole S40960) (View.loadsAt_whole hl)) fun f => k (loadIdx f ![v] (hidx (hchk hin)))) Q
  iintro HP
  iapply (hL (View.loadsAt_whole hl) (fun f => k (loadIdx f ![v] (hidx (hchk hin)))) Q)
  isplitl [HP]; · iexact HP
  iintro %f %hf HP
  iapply (hk (loadIdx f ![v] (hidx (hchk hin))) ?_) $$ HP
  intro x
  have h0 : ((idxAt (s := S40960) (![v] : Fin 1 → IVec S16 32) hin x) 0).val = N (x 0).val := hv x
  refine (hf (idxAt (s := S40960) (![v] : Fin 1 → IVec S16 32) hin x) ?_).trans ?_
  · show ((idxAt (s := S40960) (![v] : Fin 1 → IVec S16 32) hin x) 0).val < n
    rw [h0]; exact hN _ (x 0).isLt
  · show X ((idxAt (s := S40960) (![v] : Fin 1 → IVec S16 32) hin x) 0).val = _
    rw [h0]

/-! ## The inner loops -/

/-- The two running sums of group `t` after `j` steps, lane by lane. -/
def Sums (X : ℕ → F .f32) (t j : ℕ) (a : FVec F S16 .f32 × FVec F S16 .f32) : Prop :=
  (∀ x, a.1 x = acc0 X t (x 0).val j) ∧ ∀ x, a.2 x = acc1 X t (x 0).val j

theorem sums_step {X : ℕ → F .f32} {t j : ℕ} {a : FVec F S16 .f32 × FVec F S16 .f32} (h : Sums X t j a)
    {g0 g1 g2 g3 g4 g5 g6 g7 : Vec F S16 .f32} (h0 : ∀ x, g0 x = X (at' t (x 0).val 0 j)) (h1 : ∀ x, g1 x = X (at' t (x 0).val 1 j))
    (h2 : ∀ x, g2 x = X (at' t (x 0).val 2 j)) (h3 : ∀ x, g3 x = X (at' t (x 0).val 3 j)) (h4 : ∀ x, g4 x = X (at' t (x 0).val 4 j))
    (h5 : ∀ x, g5 x = X (at' t (x 0).val 5 j)) (h6 : ∀ x, g6 x = X (at' t (x 0).val 6 j)) (h7 : ∀ x, g7 x = X (at' t (x 0).val 7 j)) :
    Sums X t (j + 1) (addf (addf (addf (addf a.1 g0) g2) g4) g6, addf (addf (addf (addf a.2 g1) g3) g5) g7) := by
  refine ⟨fun x => ?_, fun x => ?_⟩
  · show FloatOps.addf (FloatOps.addf (FloatOps.addf (FloatOps.addf (a.1 x) (g0 x)) (g2 x)) (g4 x)) (g6 x) = _
    rw [h.1, h0, h2, h4, h6]; rfl
  · show FloatOps.addf (FloatOps.addf (FloatOps.addf (FloatOps.addf (a.2 x) (g1 x)) (g3 x)) (g5 x)) (g7 x) = _
    rw [h.2, h1, h3, h5, h7]; rfl

/-- The inner loop, from its steps. -/
theorem inner_loop {P : sProp 𝕄} {X : ℕ → F .f32} {t : ℕ} (l : Scf.Loop 32) (hok : l.OK) (hl : l.trips = 16)
    {v3 : FVec F S16 .f32} (hv3 : ∀ x, v3 x = zero)
    {body : Fin l.trips → FVec F S16 .f32 × FVec F S16 .f32 → Prog (TpuEff nD τ sig (Elt F) Λ₀ (tV d i).2) (FVec F S16 .f32 × FVec F S16 .f32)}
    (hbody : ∀ j, j.val < 16 → ∀ a, Sums X t j.val a →
      P ⊢ wp frame (wpE defs₀ 𝒱₀ (tV d i) none) Set.univ (body j a) fun a' => iprop(P ∗ ⌜Sums X t (j.val + 1) a'⌝)) :
    P ⊢ wp frame (wpE defs₀ 𝒱₀ (tV d i) none) Set.univ (Scf.Loop.for l hok (v3, v3) body) fun a => iprop(P ∗ ⌜Sums X t 16 a⌝) := by
  iintro HP
  iapply (Scf.wp_for frame (wpE defs₀ 𝒱₀ (tV d i) none) Set.univ l.lb l.ub l.st hok (v3, v3) body (fun j a => iprop(P ∗ ⌜Sums X t j a⌝)) ?_)
  · intro j a
    iintro ⟨HP, %ha⟩
    iapply (hbody j (hl ▸ j.isLt) a ha) $$ HP
  · isplitl [HP]
    · isplitl [HP]; · iexact HP
      ipureintro
      exact ⟨fun x => hv3 x, fun x => hv3 x⟩
    · iintro %a ⟨HP, %ha⟩
      isplitl [HP]; · iexact HP
      ipureintro
      exact (show Scf.trips l.lb l.ub l.st = 16 from hl) ▸ ha

section Loops

variable (v1 : BitVec 32) (v2 : IVec S16 32) (hv2 : ∀ x, (v2 x).toNat = (x 0).val) (v3 v4 : FVec F S16 .f32)

include hv2 in
/-- A step of loop 2: eight gathers and the two sums. -/
theorem step_t2 {P : sProp 𝕄} {X : ℕ → F .f32} {n : ℕ}
    (hL : Loads (cs := .vmem) defs₀ 𝒱₀ (tV d i) none xvM P (fun j => X (j 0).val) (fun j => (j 0).val < n))
    (hn : n ≤ 40960) (h : k0_cond1 i = 1#1) (t : Fin k0_t1_loop.trips) (ht : 2048 * (0 + t.val + 1) ≤ n)
    (j : Fin k0_t2_loop.trips) (hj : j.val < 16) (a : FVec F S16 .f32 × FVec F S16 .f32) (ha : Sums X (0 + t.val) j.val a) :
    P ⊢ wp frame (wpE defs₀ 𝒱₀ (tV d i) none) Set.univ
      (k0_t2_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 (k0_pay30 v2 k0_pay29) (k0_pay31 v2) (k0_pay32 v2) (k0_pay33 v2) (k0_pay34 v2) (k0_pay35 v2) (k0_pay36 v2) (k0_pay37 v2) h t j a)
      fun a' => iprop(P ∗ ⌜Sums X (0 + t.val) (j.val + 1) a'⌝) := by
  have hN : ∀ k < 8, ∀ l < 16, at' (0 + t.val) l k j.val < n := fun k hk l hl =>
    Nat.lt_of_lt_of_le (at_lt (0 + t.val + 1) (by omega) hl hk hj) ht
  have hw := fun (kk : BitVec 32) (k : ℕ) (hk : kk.toNat = k) (hk8 : k < 8) (x : S16.Idx) =>
    lane_word v2 hv2 kk k hk hk8 0 t.val (by omega) (by omega) j.val hj x
  unfold k0_t2_body
  dsimp only
  refine gather d i hL (v := k0_pay3 v2 (k0_pay30 v2 k0_pay29) t j) (chk := k0_chk1 i (k0_pay3 v2 (k0_pay30 v2 k0_pay29) t j)) (dec := k0_chk1.dec i _) (hl := View.loads_vmem h_S40960)
    (hidx := fun hw => k0_idx1_inb i _ hw h) _ (hN 0 (by omega)) hn (hw 0#32 0 rfl (by omega)) (fun h _ => h) fun g0 h0 => ?_
  refine gather d i hL (v := k0_pay4 v2 (k0_pay31 v2) t j) (chk := k0_chk2 i (k0_pay4 v2 (k0_pay31 v2) t j)) (dec := k0_chk2.dec i _) (hl := View.loads_vmem h_S40960)
    (hidx := fun hw => k0_idx2_inb i _ hw h) _ (hN 1 (by omega)) hn (hw 1#32 1 rfl (by omega)) (fun h _ => h) fun g1 h1 => ?_
  refine gather d i hL (v := k0_pay5 v2 (k0_pay32 v2) t j) (chk := k0_chk3 i (k0_pay5 v2 (k0_pay32 v2) t j)) (dec := k0_chk3.dec i _) (hl := View.loads_vmem h_S40960)
    (hidx := fun hw => k0_idx3_inb i _ hw h) _ (hN 2 (by omega)) hn (hw 2#32 2 rfl (by omega)) (fun h _ => h) fun g2 h2 => ?_
  refine gather d i hL (v := k0_pay6 v2 (k0_pay33 v2) t j) (chk := k0_chk4 i (k0_pay6 v2 (k0_pay33 v2) t j)) (dec := k0_chk4.dec i _) (hl := View.loads_vmem h_S40960)
    (hidx := fun hw => k0_idx4_inb i _ hw h) _ (hN 3 (by omega)) hn (hw 3#32 3 rfl (by omega)) (fun h _ => h) fun g3 h3 => ?_
  refine gather d i hL (v := k0_pay7 v2 (k0_pay34 v2) t j) (chk := k0_chk5 i (k0_pay7 v2 (k0_pay34 v2) t j)) (dec := k0_chk5.dec i _) (hl := View.loads_vmem h_S40960)
    (hidx := fun hw => k0_idx5_inb i _ hw h) _ (hN 4 (by omega)) hn (hw 4#32 4 rfl (by omega)) (fun h _ => h) fun g4 h4 => ?_
  refine gather d i hL (v := k0_pay8 v2 (k0_pay35 v2) t j) (chk := k0_chk6 i (k0_pay8 v2 (k0_pay35 v2) t j)) (dec := k0_chk6.dec i _) (hl := View.loads_vmem h_S40960)
    (hidx := fun hw => k0_idx6_inb i _ hw h) _ (hN 5 (by omega)) hn (hw 5#32 5 rfl (by omega)) (fun h _ => h) fun g5 h5 => ?_
  refine gather d i hL (v := k0_pay9 v2 (k0_pay36 v2) t j) (chk := k0_chk7 i (k0_pay9 v2 (k0_pay36 v2) t j)) (dec := k0_chk7.dec i _) (hl := View.loads_vmem h_S40960)
    (hidx := fun hw => k0_idx7_inb i _ hw h) _ (hN 6 (by omega)) hn (hw 6#32 6 rfl (by omega)) (fun h _ => h) fun g6 h6 => ?_
  refine gather d i hL (v := k0_pay11 v2 (k0_pay37 v2) t j) (chk := k0_chk8 i (k0_pay11 v2 (k0_pay37 v2) t j)) (dec := k0_chk8.dec i _) (hl := View.loads_vmem h_S40960)
    (hidx := fun hw => k0_idx8_inb i _ hw h) _ (hN 7 (by omega)) hn (hw 7#32 7 rfl (by omega)) (fun h _ => h) fun g7 h7 => ?_
  iintro HP
  rw [wp_pure]
  imodintro
  isplitl [HP]; · iexact HP
  ipureintro
  exact sums_step ha h0 h1 h2 h3 h4 h5 h6 h7

include hv2 in
/-- A step of loop 4: eight gathers and the two sums. -/
theorem step_t4 {P : sProp 𝕄} {X : ℕ → F .f32} {n : ℕ}
    (hL : Loads (cs := .vmem) defs₀ 𝒱₀ (tV d i) none xvM P (fun j => X (j 0).val) (fun j => (j 0).val < n))
    (hn : n ≤ 40960) (h : k0_cond1 i = 1#1) (t : Fin k0_t3_loop.trips) (ht : 2048 * (10 + t.val + 1) ≤ n)
    (j : Fin k0_t4_loop.trips) (hj : j.val < 16) (a : FVec F S16 .f32 × FVec F S16 .f32) (ha : Sums X (10 + t.val) j.val a) :
    P ⊢ wp frame (wpE defs₀ 𝒱₀ (tV d i) none) Set.univ
      (k0_t4_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h 10#32 t j a)
      fun a' => iprop(P ∗ ⌜Sums X (10 + t.val) (j.val + 1) a'⌝) := by
  have hN : ∀ k < 8, ∀ l < 16, at' (10 + t.val) l k j.val < n := fun k hk l hl =>
    Nat.lt_of_lt_of_le (at_lt (10 + t.val + 1) (by omega) hl hk hj) ht
  have hw := fun (kk : BitVec 32) (k : ℕ) (hk : kk.toNat = k) (hk8 : k < 8) (x : S16.Idx) =>
    lane_word v2 hv2 kk k hk hk8 10 t.val (by omega) (by omega) j.val hj x
  unfold k0_t4_body
  dsimp only
  refine gather d i hL (v := k0_pay40 v2 k0_pay29 10#32 t j) (chk := k0_chk10 i (k0_pay40 v2 k0_pay29 10#32 t j)) (dec := k0_chk10.dec i _) (hl := View.loads_vmem h_S40960)
    (hidx := fun hw => k0_idx11_inb i _ hw h) _ (hN 0 (by omega)) hn (hw 0#32 0 rfl (by omega)) (fun h _ => h) fun g0 h0 => ?_
  refine gather d i hL (v := k0_pay41 v2 10#32 t j) (chk := k0_chk11 i (k0_pay41 v2 10#32 t j)) (dec := k0_chk11.dec i _) (hl := View.loads_vmem h_S40960)
    (hidx := fun hw => k0_idx12_inb i _ hw h) _ (hN 1 (by omega)) hn (hw 1#32 1 rfl (by omega)) (fun h _ => h) fun g1 h1 => ?_
  refine gather d i hL (v := k0_pay42 v2 10#32 t j) (chk := k0_chk12 i (k0_pay42 v2 10#32 t j)) (dec := k0_chk12.dec i _) (hl := View.loads_vmem h_S40960)
    (hidx := fun hw => k0_idx13_inb i _ hw h) _ (hN 2 (by omega)) hn (hw 2#32 2 rfl (by omega)) (fun h _ => h) fun g2 h2 => ?_
  refine gather d i hL (v := k0_pay43 v2 10#32 t j) (chk := k0_chk13 i (k0_pay43 v2 10#32 t j)) (dec := k0_chk13.dec i _) (hl := View.loads_vmem h_S40960)
    (hidx := fun hw => k0_idx14_inb i _ hw h) _ (hN 3 (by omega)) hn (hw 3#32 3 rfl (by omega)) (fun h _ => h) fun g3 h3 => ?_
  refine gather d i hL (v := k0_pay44 v2 10#32 t j) (chk := k0_chk14 i (k0_pay44 v2 10#32 t j)) (dec := k0_chk14.dec i _) (hl := View.loads_vmem h_S40960)
    (hidx := fun hw => k0_idx15_inb i _ hw h) _ (hN 4 (by omega)) hn (hw 4#32 4 rfl (by omega)) (fun h _ => h) fun g4 h4 => ?_
  refine gather d i hL (v := k0_pay45 v2 10#32 t j) (chk := k0_chk15 i (k0_pay45 v2 10#32 t j)) (dec := k0_chk15.dec i _) (hl := View.loads_vmem h_S40960)
    (hidx := fun hw => k0_idx16_inb i _ hw h) _ (hN 5 (by omega)) hn (hw 5#32 5 rfl (by omega)) (fun h _ => h) fun g5 h5 => ?_
  refine gather d i hL (v := k0_pay46 v2 10#32 t j) (chk := k0_chk16 i (k0_pay46 v2 10#32 t j)) (dec := k0_chk16.dec i _) (hl := View.loads_vmem h_S40960)
    (hidx := fun hw => k0_idx17_inb i _ hw h) _ (hN 6 (by omega)) hn (hw 6#32 6 rfl (by omega)) (fun h _ => h) fun g6 h6 => ?_
  refine gather d i hL (v := k0_pay48 v2 10#32 t j) (chk := k0_chk17 i (k0_pay48 v2 10#32 t j)) (dec := k0_chk17.dec i _) (hl := View.loads_vmem h_S40960)
    (hidx := fun hw => k0_idx18_inb i _ hw h) _ (hN 7 (by omega)) hn (hw 7#32 7 rfl (by omega)) (fun h _ => h) fun g7 h7 => ?_
  iintro HP
  rw [wp_pure]
  imodintro
  isplitl [HP]; · iexact HP
  ipureintro
  exact sums_step ha h0 h1 h2 h3 h4 h5 h6 h7

include hv2 in
/-- A step of loop 6: eight gathers and the two sums. -/
theorem step_t6 {P : sProp 𝕄} {X : ℕ → F .f32} {n : ℕ}
    (hL : Loads (cs := .vmem) defs₀ 𝒱₀ (tV d i) none xvM P (fun j => X (j 0).val) (fun j => (j 0).val < n))
    (hn : n ≤ 40960) (h : k0_cond2 i = 1#1) (t : Fin k0_t5_loop.trips) (ht : 2048 * (0 + t.val + 1) ≤ n)
    (j : Fin k0_t6_loop.trips) (hj : j.val < 16) (a : FVec F S16 .f32 × FVec F S16 .f32) (ha : Sums X (0 + t.val) j.val a) :
    P ⊢ wp frame (wpE defs₀ 𝒱₀ (tV d i) none) Set.univ
      (k0_t6_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v2 v3 v4 (k0_pay30 v2 k0_pay29) (k0_pay31 v2) (k0_pay32 v2) (k0_pay33 v2) (k0_pay34 v2) (k0_pay35 v2) (k0_pay36 v2) (k0_pay37 v2) h t j a)
      fun a' => iprop(P ∗ ⌜Sums X (0 + t.val) (j.val + 1) a'⌝) := by
  have hN : ∀ k < 8, ∀ l < 16, at' (0 + t.val) l k j.val < n := fun k hk l hl =>
    Nat.lt_of_lt_of_le (at_lt (0 + t.val + 1) (by omega) hl hk hj) ht
  have hw := fun (kk : BitVec 32) (k : ℕ) (hk : kk.toNat = k) (hk8 : k < 8) (x : S16.Idx) =>
    lane_word v2 hv2 kk k hk hk8 0 t.val (by omega) (by omega) j.val hj x
  unfold k0_t6_body
  dsimp only
  refine gather d i hL (v := k0_pay16 v2 (k0_pay30 v2 k0_pay29) t j) (chk := k0_chk19 i (k0_pay16 v2 (k0_pay30 v2 k0_pay29) t j)) (dec := k0_chk19.dec i _) (hl := View.loads_vmem h_S40960)
    (hidx := fun hw => k0_idx21_inb i _ hw h) _ (hN 0 (by omega)) hn (hw 0#32 0 rfl (by omega)) (fun h _ => h) fun g0 h0 => ?_
  refine gather d i hL (v := k0_pay17 v2 (k0_pay31 v2) t j) (chk := k0_chk20 i (k0_pay17 v2 (k0_pay31 v2) t j)) (dec := k0_chk20.dec i _) (hl := View.loads_vmem h_S40960)
    (hidx := fun hw => k0_idx22_inb i _ hw h) _ (hN 1 (by omega)) hn (hw 1#32 1 rfl (by omega)) (fun h _ => h) fun g1 h1 => ?_
  refine gather d i hL (v := k0_pay18 v2 (k0_pay32 v2) t j) (chk := k0_chk21 i (k0_pay18 v2 (k0_pay32 v2) t j)) (dec := k0_chk21.dec i _) (hl := View.loads_vmem h_S40960)
    (hidx := fun hw => k0_idx23_inb i _ hw h) _ (hN 2 (by omega)) hn (hw 2#32 2 rfl (by omega)) (fun h _ => h) fun g2 h2 => ?_
  refine gather d i hL (v := k0_pay19 v2 (k0_pay33 v2) t j) (chk := k0_chk22 i (k0_pay19 v2 (k0_pay33 v2) t j)) (dec := k0_chk22.dec i _) (hl := View.loads_vmem h_S40960)
    (hidx := fun hw => k0_idx24_inb i _ hw h) _ (hN 3 (by omega)) hn (hw 3#32 3 rfl (by omega)) (fun h _ => h) fun g3 h3 => ?_
  refine gather d i hL (v := k0_pay20 v2 (k0_pay34 v2) t j) (chk := k0_chk23 i (k0_pay20 v2 (k0_pay34 v2) t j)) (dec := k0_chk23.dec i _) (hl := View.loads_vmem h_S40960)
    (hidx := fun hw => k0_idx25_inb i _ hw h) _ (hN 4 (by omega)) hn (hw 4#32 4 rfl (by omega)) (fun h _ => h) fun g4 h4 => ?_
  refine gather d i hL (v := k0_pay21 v2 (k0_pay35 v2) t j) (chk := k0_chk24 i (k0_pay21 v2 (k0_pay35 v2) t j)) (dec := k0_chk24.dec i _) (hl := View.loads_vmem h_S40960)
    (hidx := fun hw => k0_idx26_inb i _ hw h) _ (hN 5 (by omega)) hn (hw 5#32 5 rfl (by omega)) (fun h _ => h) fun g5 h5 => ?_
  refine gather d i hL (v := k0_pay22 v2 (k0_pay36 v2) t j) (chk := k0_chk25 i (k0_pay22 v2 (k0_pay36 v2) t j)) (dec := k0_chk25.dec i _) (hl := View.loads_vmem h_S40960)
    (hidx := fun hw => k0_idx27_inb i _ hw h) _ (hN 6 (by omega)) hn (hw 6#32 6 rfl (by omega)) (fun h _ => h) fun g6 h6 => ?_
  refine gather d i hL (v := k0_pay24 v2 (k0_pay37 v2) t j) (chk := k0_chk26 i (k0_pay24 v2 (k0_pay37 v2) t j)) (dec := k0_chk26.dec i _) (hl := View.loads_vmem h_S40960)
    (hidx := fun hw => k0_idx28_inb i _ hw h) _ (hN 7 (by omega)) hn (hw 7#32 7 rfl (by omega)) (fun h _ => h) fun g7 h7 => ?_
  iintro HP
  rw [wp_pure]
  imodintro
  isplitl [HP]; · iexact HP
  ipureintro
  exact sums_step ha h0 h1 h2 h3 h4 h5 h6 h7

include hv2 in
/-- A step of loop 8: eight gathers and the two sums. -/
theorem step_t8 {P : sProp 𝕄} {X : ℕ → F .f32} {n : ℕ}
    (hL : Loads (cs := .vmem) defs₀ 𝒱₀ (tV d i) none xvM P (fun j => X (j 0).val) (fun j => (j 0).val < n))
    (hn : n ≤ 40960) (h : k0_cond2 i = 1#1) (t : Fin k0_t7_loop.trips) (ht : 2048 * (2 + t.val + 1) ≤ n)
    (j : Fin k0_t8_loop.trips) (hj : j.val < 16) (a : FVec F S16 .f32 × FVec F S16 .f32) (ha : Sums X (2 + t.val) j.val a) :
    P ⊢ wp frame (wpE defs₀ 𝒱₀ (tV d i) none) Set.univ
      (k0_t8_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h t j a)
      fun a' => iprop(P ∗ ⌜Sums X (2 + t.val) (j.val + 1) a'⌝) := by
  have hN : ∀ k < 8, ∀ l < 16, at' (2 + t.val) l k j.val < n := fun k hk l hl =>
    Nat.lt_of_lt_of_le (at_lt (2 + t.val + 1) (by omega) hl hk hj) ht
  have hw := fun (kk : BitVec 32) (k : ℕ) (hk : kk.toNat = k) (hk8 : k < 8) (x : S16.Idx) =>
    lane_word v2 hv2 kk k hk hk8 2 t.val (by omega) (by omega) j.val hj x
  unfold k0_t8_body
  dsimp only
  refine gather d i hL (v := k0_pay53 v2 k0_pay29 t j) (chk := k0_chk28 i (k0_pay53 v2 k0_pay29 t j)) (dec := k0_chk28.dec i _) (hl := View.loads_vmem h_S40960)
    (hidx := fun hw => k0_idx31_inb i _ hw h) _ (hN 0 (by omega)) hn (hw 0#32 0 rfl (by omega)) (fun h _ => h) fun g0 h0 => ?_
  refine gather d i hL (v := k0_pay54 v2 t j) (chk := k0_chk29 i (k0_pay54 v2 t j)) (dec := k0_chk29.dec i _) (hl := View.loads_vmem h_S40960)
    (hidx := fun hw => k0_idx32_inb i _ hw h) _ (hN 1 (by omega)) hn (hw 1#32 1 rfl (by omega)) (fun h _ => h) fun g1 h1 => ?_
  refine gather d i hL (v := k0_pay55 v2 t j) (chk := k0_chk30 i (k0_pay55 v2 t j)) (dec := k0_chk30.dec i _) (hl := View.loads_vmem h_S40960)
    (hidx := fun hw => k0_idx33_inb i _ hw h) _ (hN 2 (by omega)) hn (hw 2#32 2 rfl (by omega)) (fun h _ => h) fun g2 h2 => ?_
  refine gather d i hL (v := k0_pay56 v2 t j) (chk := k0_chk31 i (k0_pay56 v2 t j)) (dec := k0_chk31.dec i _) (hl := View.loads_vmem h_S40960)
    (hidx := fun hw => k0_idx34_inb i _ hw h) _ (hN 3 (by omega)) hn (hw 3#32 3 rfl (by omega)) (fun h _ => h) fun g3 h3 => ?_
  refine gather d i hL (v := k0_pay57 v2 t j) (chk := k0_chk32 i (k0_pay57 v2 t j)) (dec := k0_chk32.dec i _) (hl := View.loads_vmem h_S40960)
    (hidx := fun hw => k0_idx35_inb i _ hw h) _ (hN 4 (by omega)) hn (hw 4#32 4 rfl (by omega)) (fun h _ => h) fun g4 h4 => ?_
  refine gather d i hL (v := k0_pay58 v2 t j) (chk := k0_chk33 i (k0_pay58 v2 t j)) (dec := k0_chk33.dec i _) (hl := View.loads_vmem h_S40960)
    (hidx := fun hw => k0_idx36_inb i _ hw h) _ (hN 5 (by omega)) hn (hw 5#32 5 rfl (by omega)) (fun h _ => h) fun g5 h5 => ?_
  refine gather d i hL (v := k0_pay59 v2 t j) (chk := k0_chk34 i (k0_pay59 v2 t j)) (dec := k0_chk34.dec i _) (hl := View.loads_vmem h_S40960)
    (hidx := fun hw => k0_idx37_inb i _ hw h) _ (hN 6 (by omega)) hn (hw 6#32 6 rfl (by omega)) (fun h _ => h) fun g6 h6 => ?_
  refine gather d i hL (v := k0_pay61 v2 t j) (chk := k0_chk35 i (k0_pay61 v2 t j)) (dec := k0_chk35.dec i _) (hl := View.loads_vmem h_S40960)
    (hidx := fun hw => k0_idx38_inb i _ hw h) _ (hN 7 (by omega)) hn (hw 7#32 7 rfl (by omega)) (fun h _ => h) fun g7 h7 => ?_
  iintro HP
  rw [wp_pure]
  imodintro
  isplitl [HP]; · iexact HP
  ipureintro
  exact sums_step ha h0 h1 h2 h3 h4 h5 h6 h7

end Loops

end Cert.Proof.Gather

end
-- ==== Proof.Group.lean ====
/-
  The loops over a tile's node groups: each group's sixteen batch words are loaded, the rows summed, and the sums and
  ones scattered, each lane into its own row of the two tables.
-/
module

public import proofs.«01_k».proof.Proof.Gather

@[expose] public section

noncomputable section

namespace Cert.Proof.Group

open Cert.KernelIdeal Cert.KernelIdeal.Gen Cert.Proof.Landing Cert.Proof.Model Cert.Proof.Gather

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## A buffer known by what it reads -/

/-- The whole of `m`'s buffer, outright, reading something of which `R` holds. -/
def cont {cs : CoreSpace} {s : Shape} {e : EltTy} (m : Memref sig .scVector cs s e) (R : (s.Idx → Elt F e) → Prop) : sProp 𝕄 :=
  iprop(∃ f : Buf (Elt F) (m.view.loc (tV d i)), ⌜R (m.view.read (Elt F) f)⌝ ∗ held d i m f)

section Rules

variable {cs : CoreSpace} {s : Shape} {e : EltTy} {m : Memref sig .scVector cs s e} {R R' : (s.Idx → Elt F e) → Prop} {P : sProp (MT nD τ sig (HIx 1) (Elt F) ℕ UU ℕ)}
variable {α : Type} {Q : α → sProp (MT nD τ sig (HIx 1) (Elt F) ℕ UU ℕ)}

/-- A load through a rectangle reads what is known of the buffer there. -/
theorem loadR {r : Rect s} {hl : m.view.LoadsAt r.toLoadRect} {k : (r.shape.Idx → Elt F e) → Prog (TpuEff nD τ sig (Elt F) Λ₀ (tV d i).2) α}
    (hk : ∀ g, R g → iprop(P ∗ cont d i m (· = g)) ⊢ wp frame (wpE defs₀ 𝒱₀ (tV d i) none) Set.univ (k fun x => g (r.emb x)) Q) :
    iprop(P ∗ cont d i m R) ⊢ wp frame (wpE defs₀ 𝒱₀ (tV d i) none) Set.univ (.op (.load m r.toLoadRect hl) k) Q := by
  unfold cont
  iintro ⟨HP, %f, %hf, Hm⟩
  iapply (wp_load 𝒱₀ (tV d i) none Set.univ (m := m) (S := Finset.univ) (Finset.subset_univ _)) $$ Hm
  iintro Hm
  iapply (hk _ hf)
  isplitl [HP]; · iexact HP
  unfold cont
  iexists f
  isplitr; · ipureintro; rfl
  iexact Hm

/-- An unmasked store through a rectangle. -/
theorem storeR {r : Rect s} {w : r.shape.Idx → Elt F e} {hx : (m.access r).Stores Finset.univ} {hm : Finset.univ = Finset.univ ∨ ∀ a, r.stride a = 1}
    {k : PUnit → Prog (TpuEff nD τ sig (Elt F) Λ₀ (tV d i).2) α}
    (hR : ∀ g, R g → ∀ g' : s.Idx → Elt F e, (∀ x, g' (r.emb x) = w x) → (∀ y, y ∉ r.set → g' y = g y) → R' g')
    (hk : iprop(P ∗ cont d i m R') ⊢ wp frame (wpE defs₀ 𝒱₀ (tV d i) none) Set.univ (k ⟨⟩) Q) :
    iprop(P ∗ cont d i m R) ⊢ wp frame (wpE defs₀ 𝒱₀ (tV d i) none) Set.univ (.op (.store m r w Finset.univ hx hm) k) Q := by
  unfold cont
  iintro ⟨HP, %f, %hf, Hm⟩
  iapply (wp_store 𝒱₀ (tV d i) none Set.univ (m := m) (r := r) (Mk := Finset.univ) (S := Finset.univ) (Finset.subset_univ _)) $$ Hm
  iintro Hm
  iapply hk
  isplitl [HP]; · iexact HP
  unfold cont
  iexists ((m.access r).write (Elt F) f w Finset.univ)
  isplitr
  · ipureintro
    exact hR _ hf _ (fun x => View.read_slice_write_emb (v := m.view) r f w (Finset.mem_univ x))
      (fun y hy => View.read_slice_write_of_not_mem (v := m.view) r f w _ (by rwa [Rect.map_emb_univ]))
  iexact Hm

end Rules

section Scatter

variable {P : sProp (MT nD τ sig (HIx 1) (Elt F) ℕ UU ℕ)} {α : Type} {Q : α → sProp (MT nD τ sig (HIx 1) (Elt F) ℕ UU ℕ)} {m : Memref sig .scVector .vmem S16x64 .f32}

/-- A table's contents after `t` groups. -/
def Tab (B : ℕ → ℕ) (v : ℕ → ℕ → F .f32) (t : ℕ) (f : Vec F S16x64 .f32) : Prop :=
  ∀ j, f j = table B v (j 0).val (j 1).val t

/-- A scatter into a table, each lane into its own row, advances it by a group. -/
theorem scatter_tab {B : ℕ → ℕ} {v : ℕ → ℕ → F .f32} {t : ℕ} {v2 b : IVec S16 32} (hv2 : ∀ x, (v2 x).toNat = (x 0).val)
    (hb : ∀ x, (b x).toNat = B (16 * t + (x 0).val)) {a : Vec F S16 .f32} (ha : ∀ x, a x = v t (x 0).val)
    {h : ∀ a x, ((![v2, b] : Fin 2 → IVec S16 32) a x).toNat < S16x64.size a}
    {hs : (m.access (.whole S16x64)).Stores Finset.univ} {k : PUnit → Prog (TpuEff nD τ sig (Elt F) Λ₀ (tV d i).2) α}
    (hk : iprop(P ∗ cont d i m (Tab B v (t + 1))) ⊢ wp frame (wpE defs₀ 𝒱₀ (tV d i) none) Set.univ (k ⟨⟩) Q) :
    iprop(P ∗ cont d i m (Tab B v t)) ⊢ wp frame (wpE defs₀ 𝒱₀ (tV d i) none) Set.univ
      (SparseCore.vectorStoreIdx m ![v2, b] a (fun _ => 1#1) true h hs >>= k) Q := by
  show _ ⊢ wp _ _ _ (.op (.load m (Rect.whole S16x64).toLoadRect (View.loadsAt_rect hs.loads)) fun f =>
    .op (.store m (.whole S16x64) (storeIdx f ![v2, b] a (fun _ => 1#1) true h) Finset.univ hs (.inl rfl)) k) Q
  refine loadR d i fun g hg => storeR d i ?_ hk
  intro _ _ g' hg' _
  intro j
  have he : (Rect.whole S16x64).emb j = j := Rect.emb_whole_apply S16x64 j
  have hg0 := hg' j
  rw [he] at hg0
  refine hg0.trans ?_
  have := scatter v2 b hv2 a (fun x => g ((Rect.whole S16x64).emb x)) h j ⟨(j 0).val, (j 0).isLt⟩ rfl
  refine this.trans ?_
  have hbl : (b (lane ⟨(j 0).val, (j 0).isLt⟩)).toNat = B (16 * t + (j 0).val) := hb _
  have hal : a (lane ⟨(j 0).val, (j 0).isLt⟩) = v t (j 0).val := ha _
  have hgj : g ((Rect.whole S16x64).emb j) = table B v (j 0).val (j 1).val t := by rw [he]; exact hg j
  rw [hbl, hal, hgj]
  rfl

end Scatter

/-! ## One group -/

/-- The tile's two tables after `t` groups, its batch words, and what lets it gather (`P`). -/
def Res (P : sProp 𝕄) (X : ℕ → F .f32) (B : ℕ → ℕ) (nb t : ℕ) : sProp 𝕄 :=
  iprop(P ∗ cont d i bvM (fun f => ∀ j : S320.Idx, (j 0).val < nb → BitVec.toNat (f j) = B (j 0).val)
    ∗ cont d i spM (Tab B (row X) t) ∗ cont d i cpM (Tab B (fun _ _ => one) t))

theorem group {P : sProp 𝕄} {X : ℕ → F .f32} {B : ℕ → ℕ} {nb t : ℕ} (hnb : nb ≤ 320) (ht : 16 * t + 16 ≤ nb) (hB : ∀ r < nb, B r < 64)
    {off : Fin 1 → ℕ} {inb : ∀ a, off a + S16.size a ≤ S320.size a} (hoff : off 0 = 16 * t)
    {hl : bvM.view.LoadsAt (Rect.unit (s := S320) off S16.size inb).toLoadRect}
    {v2 : IVec S16 32} (hv2 : ∀ x, (v2 x).toNat = (x 0).val) {v4 : FVec F S16 .f32} (hv4 : ∀ x, v4 x = one)
    {chk : IVec S16 32 → Prop} {dec : ∀ v, Decidable (chk v)}
    (hchk : ∀ v, (∀ a x, ((![v2, v] : Fin 2 → IVec S16 32) a x).toNat < S16x64.size a) → chk v)
    {h8 h9 : ∀ v, chk v → ∀ a x, ((![v2, v] : Fin 2 → IVec S16 32) a x).toNat < S16x64.size a}
    {hs8 : (spM.access (.whole S16x64)).Stores Finset.univ} {hs9 : (cpM.access (.whole S16x64)).Stores Finset.univ}
    {inner : Prog (TpuEff nD τ sig (Elt F) Λ₀ (tV d i).2) (FVec F S16 .f32 × FVec F S16 .f32)}
    (hinner : P ⊢ wp frame (wpE defs₀ 𝒱₀ (tV d i) none) Set.univ inner fun a => iprop(P ∗ ⌜Sums X t 16 a⌝)) :
    Res d i P X B nb t ⊢ wp frame (wpE defs₀ 𝒱₀ (tV d i) none) Set.univ
      (Prog.lift (.load bvM (Rect.unit (s := S320) off S16.size inb).toLoadRect hl) >>= fun v : Vec F S16 .i32 =>
        Prog.lift (TpuEff.assume (chk v) (dec v)) >>= fun hw =>
        inner >>= fun a =>
        SparseCore.vectorStoreIdx spM ![v2, v] (addf a.1 a.2) (fun _ => 1#1) true (h8 v hw.down) hs8 >>= fun _ =>
        SparseCore.vectorStoreIdx cpM ![v2, v] v4 (fun _ => 1#1) true (h9 v hw.down) hs9 >>= fun _ => pure (0#32 : BitVec 32))
      fun _ => Res d i P X B nb (t + 1) := by
  unfold Res
  iintro ⟨HP, Hb, Hs, Hc⟩
  iapply (loadR d i (P := iprop(P ∗ cont d i spM (Tab B (row X) t) ∗ cont d i cpM (Tab B (fun _ _ => one) t)))
    (R := fun f => ∀ j : S320.Idx, (j 0).val < nb → BitVec.toNat (f j) = B (j 0).val) fun g hg => ?_) $$ [HP Hb Hs Hc]
  · have hv : ∀ x : S16.Idx, BitVec.toNat (g ((Rect.unit (s := S320) off S16.size inb).emb x)) = B (16 * t + (x 0).val) := by
      intro x
      have h0 : (((Rect.unit (s := S320) off S16.size inb).emb x) 0).val = 16 * t + (x 0).val := by
        show off 0 + 1 * (x 0).val = _
        rw [hoff, Nat.one_mul]
      have hx : (x 0).val < 16 := (x 0).isLt
      rw [hg _ (by rw [h0]; omega), h0]
    have hg' : ∀ j : S320.Idx, (j 0).val < nb → BitVec.toNat (g j) = B (j 0).val := hg
    have hok : ∀ v : IVec S16 32, (∀ x, (v x).toNat = B (16 * t + (x 0).val)) →
        ∀ a x, ((![v2, v] : Fin 2 → IVec S16 32) a x).toNat < S16x64.size a := by
      intro v hv a x
      have hx : (x 0).val < 16 := (x 0).isLt
      match a with
      | 0 => exact (hv2 x).symm ▸ hx
      | 1 => exact (hv x).symm ▸ hB _ (by omega)
    suffices key : ∀ v : Vec F S16 .i32, (∀ x, BitVec.toNat (v x) = B (16 * t + (x 0).val)) → iprop((P ∗ cont d i spM (Tab B (row X) t)
        ∗ cont d i cpM (Tab B (fun _ _ => one) t)) ∗ cont d i bvM (· = g)) ⊢ wp frame (wpE defs₀ 𝒱₀ (tV d i) none) Set.univ
        (Prog.lift (TpuEff.assume (chk v) (dec v)) >>= fun hw =>
          inner >>= fun a =>
          SparseCore.vectorStoreIdx spM ![v2, v] (addf a.1 a.2) (fun _ => 1#1) true (h8 v hw.down) hs8 >>= fun _ =>
          SparseCore.vectorStoreIdx cpM ![v2, v] v4 (fun _ => 1#1) true (h9 v hw.down) hs9 >>= fun _ => pure (0#32 : BitVec 32)) _ from key _ hv
    intro v hv
    show _ ⊢ wp _ _ _ (.op (TpuEff.assume (chk v) (dec v)) _) _
    rw [wp_assume_of 𝒱₀ (tV d i) none Set.univ (hchk v (hok v hv))]
    show _ ⊢ wp _ _ _ (inner >>= _) _
    rw [wp_bind]
    iintro ⟨⟨HP, Hs, Hc⟩, Hb⟩
    ihave Hi := hinner $$ HP
    iapply (wp_wand frame (wpE defs₀ 𝒱₀ (tV d i) none) Set.univ) $$ Hi
    iintro %a ⟨HP, %ha⟩
    have hadd : ∀ x, addf a.1 a.2 x = row X t (x 0).val := fun x => by
      show FloatOps.addf (a.1 x) (a.2 x) = _
      rw [ha.1, ha.2]; rfl
    iapply (scatter_tab d i (P := iprop(P ∗ cont d i cpM (Tab B (fun _ _ => one) t) ∗ cont d i bvM (· = g))) hv2 hv
      (v := row X) (a := addf a.1 a.2) hadd ?_) $$ [HP Hs Hc Hb]
    · iintro ⟨⟨HP, Hc, Hb⟩, Hs⟩
      iapply (scatter_tab d i (P := iprop(P ∗ cont d i spM (Tab B (row X) (t + 1)) ∗ cont d i bvM (· = g))) hv2 hv
        (v := fun _ _ => one) (a := v4) hv4 ?_) $$ [HP Hs Hc Hb]
      · iintro ⟨⟨HP, Hs, Hb⟩, Hc⟩
        rw [wp_pure]
        imodintro
        isplitl [HP]; · iexact HP
        isplitl [Hb]
        · unfold cont
          icases Hb with ⟨%f, %hf, Hb⟩
          iexists f
          isplitr
          · ipureintro; intro j hj; rw [hf]; exact hg' j hj
          · iexact Hb
        isplitl [Hs]; · iexact Hs
        iexact Hc
      · isplitr [Hc]
        · isplitl [HP]; · iexact HP
          isplitl [Hs]; · iexact Hs
          iexact Hb
        · iexact Hc
    · isplitr [Hs]
      · isplitl [HP]; · iexact HP
        isplitl [Hc]; · iexact Hc
        iexact Hb
      · iexact Hs
  · isplitr [Hb]
    · isplitl [HP]; · iexact HP
      isplitl [Hs]; · iexact Hs
      iexact Hc
    · iexact Hb

end Cert.Proof.Group

end
-- ==== Proof.Outer.lean ====
/-
  The tile's loops over its groups: each trip advances the two tables by one group, so the loop from `lo` to `hi`
  takes the tables after `lo` groups to those after `hi`.
-/
module

public import proofs.«01_k».proof.Proof.Group

@[expose] public section

noncomputable section

namespace Cert.Proof.Outer

open Cert.KernelIdeal Cert.KernelIdeal.Gen Cert.Proof.Landing Cert.Proof.Model Cert.Proof.Gather

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## A buffer known by what it reads -/
open Cert.Proof.Group

/-- Where a trip loads its batch words. -/
theorem off_word (lo t : ℕ) (hlo : lo < 100) (ht : t < 100) :
    (![(Scalar.indexCast (Scalar.muli (Scf.iv (BitVec.ofNat 32 lo) 1#32 t) 16#32)).toNat] : Fin 1 → ℕ) 0 = 16 * (lo + t) :=
  muli_toNat _ (lo + t) 16 (iv_toNat lo (by omega) t (by omega)) (by omega) (by omega)

/-- A loop of trips each advancing `R`. -/
theorem trips_wp (l : Scf.Loop 32) (hok : l.OK) (N : ℕ) (hN : l.trips = N) {α : Type} {R : ℕ → sProp 𝕄} {init : α}
    {body : Fin l.trips → α → Prog (TpuEff nD τ sig (Elt F) Λ₀ (tV d i).2) α}
    (hbody : ∀ t : Fin l.trips, t.val < N → ∀ acc, R t.val ⊢ wp frame (wpE defs₀ 𝒱₀ (tV d i) none) Set.univ (body t acc) fun _ => R (t.val + 1)) :
    R 0 ⊢ wp frame (wpE defs₀ 𝒱₀ (tV d i) none) Set.univ (Scf.Loop.for l hok init body) fun _ => R N := by
  iintro HR
  iapply (Scf.wp_for frame (wpE defs₀ 𝒱₀ (tV d i) none) Set.univ l.lb l.ub l.st hok init body (fun j _ => R j) ?_)
  · intro t acc
    exact hbody t (hN ▸ t.isLt) acc
  · isplitl [HR]; · iexact HR
    iintro %a HR
    ihave H := (Entails.of_eq (show R (Scf.trips l.lb l.ub l.st) = R N from congrArg R hN)) $$ HR
    iexact H

section Loops

variable (v1 : BitVec 32) (v2 : IVec S16 32) (hv2 : ∀ x, (v2 x).toNat = (x 0).val) (v3 v4 : FVec F S16 .f32)
  (hv3 : ∀ x, v3 x = zero) (hv4 : ∀ x, v4 x = one)

include hv2 hv3 hv4 in
/-- A trip of loop 1. -/
theorem step_t1 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 10 ≤ n) (hB : ∀ r < 320, B r < 64) (h : k0_cond1 i = 1#1) (t : Fin k0_t1_loop.trips) (ht : t.val < 10) (acc : BitVec 32) :
    Res d i P X B 320 (0 + t.val) ⊢ wp frame (wpE defs₀ 𝒱₀ (tV d i) none) Set.univ
      (k0_t1_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 (k0_pay30 v2 k0_pay29) (k0_pay31 v2) (k0_pay32 v2) (k0_pay33 v2) (k0_pay34 v2) (k0_pay35 v2) (k0_pay36 v2) (k0_pay37 v2) h t acc)
      fun _ => Res d i P X B 320 (0 + (t.val + 1)) := by
  unfold k0_t1_body
  dsimp only
  exact group d i (nb := 320) (t := 0 + t.val) (by omega) (by omega) hB
    (off := k0_off4 t) (inb := k0_off4_inb i t h) (off_word 0 t.val (by omega) (by omega)) (hl := View.loadsAt_vmem h_S16) hv2 hv4
    (chk := fun v => k0_chk9 i v2 v) (dec := fun v => k0_chk9.dec i v2 v) (fun v hv => ⟨fun _ => hv, fun _ => hv⟩)
    (h8 := fun v hw => k0_idx9_inb i v2 v hw h) (h9 := fun v hw => k0_idx10_inb i v2 v hw h)
    (hs8 := View.stores_vmem_bits_univ h_S16x64 rfl) (hs9 := View.stores_vmem_bits_univ h_S16x64 rfl)
    (inner_loop d i k0_t2_loop (k0_t2_ok i h) rfl hv3 fun j hj a ha => step_t2 d i v1 v2 hv2 v3 v4 hL hn h t (by omega) j hj a ha)

include hv2 hv3 hv4 in
/-- Loop 1. -/
theorem loop_t1 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 10 ≤ n) (hB : ∀ r < 320, B r < 64) (h : k0_cond1 i = 1#1) (init : BitVec 32) :
    Res d i P X B 320 0 ⊢ wp frame (wpE defs₀ 𝒱₀ (tV d i) none) Set.univ
      (Scf.Loop.for k0_t1_loop (k0_t1_ok i h) init (k0_t1_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 (k0_pay30 v2 k0_pay29) (k0_pay31 v2) (k0_pay32 v2) (k0_pay33 v2) (k0_pay34 v2) (k0_pay35 v2) (k0_pay36 v2) (k0_pay37 v2) h))
      fun _ => Res d i P X B 320 10 :=
  trips_wp d i k0_t1_loop (k0_t1_ok i h) 10 (show k0_t1_loop.trips = 10 from rfl) (R := fun k => Res d i P X B 320 (0 + k))
    fun t ht acc => step_t1 d i v1 v2 hv2 v3 v4 hv3 hv4 hL hn hn' hB h t ht acc

include hv2 hv3 hv4 in
/-- A trip of loop 3. -/
theorem step_t3 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 20 ≤ n) (hB : ∀ r < 320, B r < 64) (h : k0_cond1 i = 1#1) (t : Fin k0_t3_loop.trips) (ht : t.val < 10) (acc : BitVec 32) :
    Res d i P X B 320 (10 + t.val) ⊢ wp frame (wpE defs₀ 𝒱₀ (tV d i) none) Set.univ
      (k0_t3_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h 10#32 t acc)
      fun _ => Res d i P X B 320 (10 + (t.val + 1)) := by
  unfold k0_t3_body
  dsimp only
  exact group d i (nb := 320) (t := 10 + t.val) (by omega) (by omega) hB
    (off := k0_off6 t) (inb := k0_off6_inb i t h) (off_word 10 t.val (by omega) (by omega)) (hl := View.loadsAt_vmem h_S16) hv2 hv4
    (chk := fun v => k0_chk18 i v2 v) (dec := fun v => k0_chk18.dec i v2 v) (fun v hv => ⟨fun _ => hv, fun _ => hv⟩)
    (h8 := fun v hw => k0_idx19_inb i v2 v hw h) (h9 := fun v hw => k0_idx20_inb i v2 v hw h)
    (hs8 := View.stores_vmem_bits_univ h_S16x64 rfl) (hs9 := View.stores_vmem_bits_univ h_S16x64 rfl)
    (inner_loop d i k0_t4_loop (k0_t4_ok i h) rfl hv3 fun j hj a ha => step_t4 d i v1 v2 hv2 v3 v4 hL hn h t (by omega) j hj a ha)

include hv2 hv3 hv4 in
/-- Loop 3. -/
theorem loop_t3 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 20 ≤ n) (hB : ∀ r < 320, B r < 64) (h : k0_cond1 i = 1#1) (init : BitVec 32) :
    Res d i P X B 320 10 ⊢ wp frame (wpE defs₀ 𝒱₀ (tV d i) none) Set.univ
      (Scf.Loop.for k0_t3_loop (k0_t3_ok i h) init (k0_t3_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h 10#32))
      fun _ => Res d i P X B 320 20 :=
  trips_wp d i k0_t3_loop (k0_t3_ok i h) 10 (show k0_t3_loop.trips = 10 from rfl) (R := fun k => Res d i P X B 320 (10 + k))
    fun t ht acc => step_t3 d i v1 v2 hv2 v3 v4 hv3 hv4 hL hn hn' hB h t ht acc

include hv2 hv3 hv4 in
/-- A trip of loop 5. -/
theorem step_t5 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 2 ≤ n) (hB : ∀ r < 80, B r < 64) (h : k0_cond2 i = 1#1) (t : Fin k0_t5_loop.trips) (ht : t.val < 2) (acc : BitVec 32) :
    Res d i P X B 80 (0 + t.val) ⊢ wp frame (wpE defs₀ 𝒱₀ (tV d i) none) Set.univ
      (k0_t5_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v2 v3 v4 (k0_pay30 v2 k0_pay29) (k0_pay31 v2) (k0_pay32 v2) (k0_pay33 v2) (k0_pay34 v2) (k0_pay35 v2) (k0_pay36 v2) (k0_pay37 v2) h t acc)
      fun _ => Res d i P X B 80 (0 + (t.val + 1)) := by
  unfold k0_t5_body
  dsimp only
  exact group d i (nb := 80) (t := 0 + t.val) (by omega) (by omega) hB
    (off := k0_off7 t) (inb := k0_off7_inb i t h) (off_word 0 t.val (by omega) (by omega)) (hl := View.loadsAt_vmem h_S16) hv2 hv4
    (chk := fun v => k0_chk27 i v2 v) (dec := fun v => k0_chk27.dec i v2 v) (fun v hv => ⟨fun _ => hv, fun _ => hv⟩)
    (h8 := fun v hw => k0_idx29_inb i v2 v hw h) (h9 := fun v hw => k0_idx30_inb i v2 v hw h)
    (hs8 := View.stores_vmem_bits_univ h_S16x64 rfl) (hs9 := View.stores_vmem_bits_univ h_S16x64 rfl)
    (inner_loop d i k0_t6_loop (k0_t6_ok i h) rfl hv3 fun j hj a ha => step_t6 d i v2 hv2 v3 v4 hL hn h t (by omega) j hj a ha)

include hv2 hv3 hv4 in
/-- Loop 5. -/
theorem loop_t5 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 2 ≤ n) (hB : ∀ r < 80, B r < 64) (h : k0_cond2 i = 1#1) (init : BitVec 32) :
    Res d i P X B 80 0 ⊢ wp frame (wpE defs₀ 𝒱₀ (tV d i) none) Set.univ
      (Scf.Loop.for k0_t5_loop (k0_t5_ok i h) init (k0_t5_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v2 v3 v4 (k0_pay30 v2 k0_pay29) (k0_pay31 v2) (k0_pay32 v2) (k0_pay33 v2) (k0_pay34 v2) (k0_pay35 v2) (k0_pay36 v2) (k0_pay37 v2) h))
      fun _ => Res d i P X B 80 2 :=
  trips_wp d i k0_t5_loop (k0_t5_ok i h) 2 (show k0_t5_loop.trips = 2 from rfl) (R := fun k => Res d i P X B 80 (0 + k))
    fun t ht acc => step_t5 d i v2 hv2 v3 v4 hv3 hv4 hL hn hn' hB h t ht acc

include hv2 hv3 hv4 in
/-- A trip of loop 7. -/
theorem step_t7 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 5 ≤ n) (hB : ∀ r < 80, B r < 64) (h : k0_cond2 i = 1#1) (t : Fin k0_t7_loop.trips) (ht : t.val < 3) (acc : BitVec 32) :
    Res d i P X B 80 (2 + t.val) ⊢ wp frame (wpE defs₀ 𝒱₀ (tV d i) none) Set.univ
      (k0_t7_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h t acc)
      fun _ => Res d i P X B 80 (2 + (t.val + 1)) := by
  unfold k0_t7_body
  dsimp only
  exact group d i (nb := 80) (t := 2 + t.val) (by omega) (by omega) hB
    (off := k0_off8 t) (inb := k0_off8_inb i t h) (off_word 2 t.val (by omega) (by omega)) (hl := View.loadsAt_vmem h_S16) hv2 hv4
    (chk := fun v => k0_chk36 i v2 v) (dec := fun v => k0_chk36.dec i v2 v) (fun v hv => ⟨fun _ => hv, fun _ => hv⟩)
    (h8 := fun v hw => k0_idx39_inb i v2 v hw h) (h9 := fun v hw => k0_idx40_inb i v2 v hw h)
    (hs8 := View.stores_vmem_bits_univ h_S16x64 rfl) (hs9 := View.stores_vmem_bits_univ h_S16x64 rfl)
    (inner_loop d i k0_t8_loop (k0_t8_ok i h) rfl hv3 fun j hj a ha => step_t8 d i v1 v2 hv2 v3 v4 hL hn h t (by omega) j hj a ha)

include hv2 hv3 hv4 in
/-- Loop 7. -/
theorem loop_t7 {P : sProp 𝕄} {X : ℕ → F .f32} {B : ℕ → ℕ} {n : ℕ}
    (hL : Loads (cs := .vmem) defs₀ 𝒱₀ (tV d i) none xvM P (fun j => X (j 0).val) (fun j => (j 0).val < n))
    (hn : n ≤ 40960) (hn' : 2048 * 5 ≤ n) (hB : ∀ r < 80, B r < 64) (h : k0_cond2 i = 1#1) (init : BitVec 32) :
    Res d i P X B 80 2 ⊢ wp frame (wpE defs₀ 𝒱₀ (tV d i) none) Set.univ
      (Scf.Loop.for k0_t7_loop (k0_t7_ok i h) init (k0_t7_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3
        v1 v2 v3 v4 k0_pay29 h))
      fun _ => Res d i P X B 80 5 :=
  trips_wp d i k0_t7_loop (k0_t7_ok i h) 3 (show k0_t7_loop.trips = 3 from rfl) (R := fun k => Res d i P X B 80 (2 + k))
    fun t ht acc => step_t7 d i v1 v2 hv2 v3 v4 hv3 hv4 hL hn hn' hB h t ht acc

end Loops

end Cert.Proof.Outer

end
-- ==== Proof.Copies.lean ====
/-
  The tile's copies in: the rows of its nodes in two halves, the second still under way while the first is gathered, and
  its batch words.
-/
module

public import proofs.«01_k».proof.Proof.Outer

@[expose] public section

noncomputable section

namespace Cert.Proof.Copies

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

open Idealize.ShloMosaic.Transfers

/-! ## What a gather needs, more loosely -/

section Loads

variable {cs : CoreSpace} {s : Shape} {e : EltTy} {m : Memref sig .scVector cs s e} {g : s.Idx → Elt F e} {A : s.Idx → Prop}

theorem Loads_frame {P R : sProp (MT nD τ sig (HIx 1) (Elt F) ℕ UU ℕ)} (h : Loads defs₀ 𝒱₀ (tV d i) none m P g A) :
    Loads defs₀ 𝒱₀ (tV d i) none m iprop(P ∗ R) g A := by
  intro α hl k Q
  iintro ⟨⟨HP, HR⟩, Hk⟩
  iapply (h hl k Q)
  isplitl [HP]; · iexact HP
  iintro %f %hf HP
  iapply Hk $$ %f %hf
  isplitl [HP] <;> iassumption

theorem Loads_ex {T : Type} {P : T → sProp (MT nD τ sig (HIx 1) (Elt F) ℕ UU ℕ)} (h : ∀ a, Loads defs₀ 𝒱₀ (tV d i) none m (P a) g A) :
    Loads defs₀ 𝒱₀ (tV d i) none m iprop(∃ a, P a) g A := by
  intro α hl k Q
  iintro ⟨⟨%a, HP⟩, Hk⟩
  iapply (h a hl k Q)
  isplitl [HP]; · iexact HP
  iintro %f %hf HP
  iapply Hk $$ %f %hf
  iexists a
  iexact HP

theorem Loads_pure {φ : Prop} {P : sProp (MT nD τ sig (HIx 1) (Elt F) ℕ UU ℕ)} (h : φ → Loads defs₀ 𝒱₀ (tV d i) none m P g A) :
    Loads defs₀ 𝒱₀ (tV d i) none m iprop(⌜φ⌝ ∗ P) g A := by
  intro α hl k Q
  iintro ⟨⟨%hφ, HP⟩, Hk⟩
  iapply (h hφ hl k Q)
  isplitl [HP]; · iexact HP
  iintro %f %hf HP
  iapply Hk $$ %f %hf
  isplitr
  · ipureintro; exact hφ
  iexact HP

end Loads

/-! ## The copies -/

/-- What the tile owes its launch, beside its right to wait. -/
def Ow (O : CellTallies nD τ sig (HIx 1)) (W : Waits sig (HIx 1)) : sProp 𝕄 :=
  iprop(MayWaits (tV d i) none O ∗ ∃ W', ⌜∀ p ∈ W', p ∈ W ∨ p.2 = none⌝ ∗ owes (tV d i) O W')

section Rules

variable {P : sProp (MT nD τ sig (HIx 1) (Elt F) ℕ UU ℕ)} {α : Type} {Q : α → sProp (MT nD τ sig (HIx 1) (Elt F) ℕ UU ℕ)}
  {O : CellTallies nD τ sig (HIx 1)} {W : Waits sig (HIx 1)} {sp sp' : Space} {s : Shape} {e : EltTy}
  {src : Memref sig .scVector sp s e} {dst : Memref sig .scVector sp' s e} {sm : DmaSem sig}
  {k : PUnit → Prog (TpuEff nD τ sig (Elt F) Λ₀ (tV d i).2) α}

/-- A wait for a copy under way. -/
theorem waitR {D : sProp (MT nD τ sig (HIx 1) (Elt F) ℕ UU ℕ)} {N : ℕ} (hN : dst.view.dmaCredit = N) {h1 : src.view.WordExact} {h2 : dst.view.WordExact}
    (hk : iprop(P ∗ D ∗ semVal (tV d i, .dma sm) 0 ∗ Ow d i O W) ⊢ wp frame (wpE defs₀ 𝒱₀ (tV d i) none) Set.univ (k ⟨⟩) Q) :
    iprop(P ∗ Flight EC (tV d i) (.dma sm) none N D ∗ Ow d i O W) ⊢ wp frame (wpE defs₀ 𝒱₀ (tV d i) none) Set.univ
      (Prog.lift (.waitDma2 sm src dst h1 h2) >>= k) Q := by
  show _ ⊢ wp _ _ _ (.op (.waitDma2 sm src dst h1 h2) k) Q
  unfold Ow
  iintro ⟨HP, HF, #Hmw, %W', %hW', Ho⟩
  iapply (wp_waitLocalO EC 𝒱₀ (tV d i) none none hN) $$ [HF Ho]
  · isplitl [HF]; · iexact HF
    isplitl [Ho]; · iexact Ho
    iapply (MayWaits.elim (.dma sm)); iexact Hmw
  iintro ⟨HD, Hv, Ho⟩
  iapply hk
  unfold Ow
  isplitl [HP]; · iexact HP
  isplitl [HD]; · iexact HD
  isplitl [Hv]; · iexact Hv
  isplitr; · iexact Hmw
  iexists (insert (.dma sm, none) W')
  isplitr
  · ipureintro
    intro p hp
    rcases Finset.mem_insert.mp hp with rfl | hp
    · exact .inr rfl
    · exact hW' p hp
  iexact Ho

/-- A copy out of part of a table read at a share: its landing, once waited for, leaves the written buffer. -/
theorem copyR {q : PosShare TreeShare} {fs : Buf (Elt F) (src.view.loc (tV d i))} {Sd : Finset (Idx (dst.view.loc (tV d i)))}
    {fd : Buf (Elt F) (dst.view.loc (tV d i))} (hs : 0 < s.numel) (hSd : dst.view.set ⊆ Sd)
    {h1 : src.view.WordExact} {h2 : dst.view.WordExact} {h3 : DmaTarget.Typed (nD := nD) (p := (tV d i).2) sp (.dma sm) (.here dst)}
    (hk : iprop(P ∗ Flight EC (tV d i) (.dma sm) none dst.view.dmaCredit
        (dst.view.loc (tV d i) ↦[Sd]{fullShare} dst.view.write (Elt F) fd (src.view.read (Elt F) fs) Finset.univ))
      ⊢ wp frame (wpE defs₀ 𝒱₀ (tV d i) none) Set.univ (k ⟨⟩) Q) :
    iprop(P ∗ (src.view.loc (tV d i) ↦[src.view.set]{q} fs) ∗ (dst.view.loc (tV d i) ↦[Sd]{fullShare} fd) ∗ semVal (tV d i, .dma sm) 0)
      ⊢ wp frame (wpE defs₀ 𝒱₀ (tV d i) none) Set.univ (Prog.lift (.enqueueDma src (.here dst) (.dma sm) h1 h2 h3) >>= k) Q := by
  show _ ⊢ wp _ _ _ (.op (.enqueueDma src (.here dst) (.dma sm) h1 h2 h3) k) Q
  iintro ⟨HP, Hs, Hd, Hv⟩
  iapply (wp_dmaLocal EC 𝒱₀ (tV d i) none none (dst.view.amount (.dma sm)) rfl (View.amount_pos dst.view (.dma sm) hs) hSd) $$ [Hs Hd Hv]
  · isplitl [Hs]; · iexact Hs
    isplitl [Hd] <;> iassumption
  iintro HF
  iapply hk
  isplitl [HP]; · iexact HP
  iapply (Flight_mono EC (tV d i) (by iintro ⟨H, -⟩; iexact H)) $$ HF

/-- The same of a copy whose target is read while it is under way. -/
theorem landR {q : PosShare TreeShare} {fs : Buf (Elt F) (src.view.loc (tV d i))} {Sd : Finset (Idx (dst.view.loc (tV d i)))}
    {fd : Buf (Elt F) (dst.view.loc (tV d i))} (hs : 0 < s.numel) (hSd : dst.view.set ⊆ Sd)
    {h1 : src.view.WordExact} {h2 : dst.view.WordExact} {h3 : DmaTarget.Typed (nD := nD) (p := (tV d i).2) sp (.dma sm) (.here dst)}
    (hk : ∀ γ δ κ, iprop(P ∗ (inv κ (body EC (dst.view.loc (tV d i)) Sd (fun M => dst.view.write (Elt F) fd (src.view.read (Elt F) fs) M) γ δ) ∗ tok EC δ)
        ∗ Flight EC (tV d i) (.dma sm) none dst.view.dmaCredit (count EC γ (code (Finset.univ : Finset s.Idx))))
      ⊢ wp frame (wpE defs₀ 𝒱₀ (tV d i) none) Set.univ (k ⟨⟩) Q) :
    iprop(P ∗ (src.view.loc (tV d i) ↦[src.view.set]{q} fs) ∗ (dst.view.loc (tV d i) ↦[Sd]{fullShare} fd) ∗ semVal (tV d i, .dma sm) 0)
      ⊢ wp frame (wpE defs₀ 𝒱₀ (tV d i) none) Set.univ (Prog.lift (.enqueueDma src (.here dst) (.dma sm) h1 h2 h3) >>= k) Q := by
  show _ ⊢ wp _ _ _ (.op (.enqueueDma src (.here dst) (.dma sm) h1 h2 h3) k) Q
  iintro ⟨HP, Hs, Hd, Hv⟩
  iapply (wp_dmaLanding EC 𝒱₀ (tV d i) none none (dst.view.amount (.dma sm)) rfl (View.amount_pos dst.view (.dma sm) hs) hSd) $$ [Hs Hd Hv]
  · isplitl [Hs]; · iexact Hs
    isplitl [Hd] <;> iassumption
  iintro %γ %δ %κ #Hinv Hδ HF
  iapply (hk γ δ κ)
  isplitl [HP]; · iexact HP
  isplitl [Hδ]
  · isplitr; · iexact Hinv
    iexact Hδ
  iapply (Flight_mono EC (tV d i) (by iintro ⟨H, -⟩; iexact H)) $$ HF

/-- The same three, for use under the context. -/
theorem waitW {D : sProp (MT nD τ sig (HIx 1) (Elt F) ℕ UU ℕ)} {N : ℕ} (hN : dst.view.dmaCredit = N) {h1 : src.view.WordExact} {h2 : dst.view.WordExact} :
    iprop(Flight EC (tV d i) (.dma sm) none N D ∗ Ow d i O W) ⊢
      iprop((D -∗ semVal (tV d i, .dma sm) 0 -∗ Ow d i O W -∗ wp frame (wpE defs₀ 𝒱₀ (tV d i) none) Set.univ (k ⟨⟩) Q)
        -∗ wp frame (wpE defs₀ 𝒱₀ (tV d i) none) Set.univ (Prog.lift (.waitDma2 sm src dst h1 h2) >>= k) Q) := by
  iintro ⟨HF, Ho⟩ Hk
  iapply (waitR d i (D := D) (O := O) (W := W) hN (P := iprop(D -∗ semVal (tV d i, .dma sm) 0 -∗ Ow d i O W -∗ wp frame (wpE defs₀ 𝒱₀ (tV d i) none) Set.univ (k ⟨⟩) Q)) ?_)
  · iintro ⟨Hk, HD, Hv, Ho⟩
    iapply Hk $$ HD Hv Ho
  isplitl [Hk]; · iexact Hk
  isplitl [HF] <;> iassumption

theorem copyW {q : PosShare TreeShare} {fs : Buf (Elt F) (src.view.loc (tV d i))} {Sd : Finset (Idx (dst.view.loc (tV d i)))}
    {fd : Buf (Elt F) (dst.view.loc (tV d i))} (hs : 0 < s.numel) (hSd : dst.view.set ⊆ Sd)
    {h1 : src.view.WordExact} {h2 : dst.view.WordExact} {h3 : DmaTarget.Typed (nD := nD) (p := (tV d i).2) sp (.dma sm) (.here dst)} :
    iprop((src.view.loc (tV d i) ↦[src.view.set]{q} fs) ∗ (dst.view.loc (tV d i) ↦[Sd]{fullShare} fd) ∗ semVal (tV d i, .dma sm) 0) ⊢
      iprop((Flight EC (tV d i) (.dma sm) none dst.view.dmaCredit
          (dst.view.loc (tV d i) ↦[Sd]{fullShare} dst.view.write (Elt F) fd (src.view.read (Elt F) fs) Finset.univ)
          -∗ wp frame (wpE defs₀ 𝒱₀ (tV d i) none) Set.univ (k ⟨⟩) Q)
        -∗ wp frame (wpE defs₀ 𝒱₀ (tV d i) none) Set.univ (Prog.lift (.enqueueDma src (.here dst) (.dma sm) h1 h2 h3) >>= k) Q) := by
  iintro ⟨Hs, Hd, Hv⟩ Hk
  iapply (copyR d i (q := q) (fs := fs) (fd := fd) hs hSd (P := iprop(Flight EC (tV d i) (.dma sm) none dst.view.dmaCredit
          (dst.view.loc (tV d i) ↦[Sd]{fullShare} dst.view.write (Elt F) fd (src.view.read (Elt F) fs) Finset.univ)
          -∗ wp frame (wpE defs₀ 𝒱₀ (tV d i) none) Set.univ (k ⟨⟩) Q)) ?_)
  · iintro ⟨Hk, HF⟩
    iapply Hk $$ HF
  isplitl [Hk]; · iexact Hk
  isplitl [Hs]; · iexact Hs
  isplitl [Hd] <;> iassumption

theorem landW {q : PosShare TreeShare} {fs : Buf (Elt F) (src.view.loc (tV d i))} {Sd : Finset (Idx (dst.view.loc (tV d i)))}
    {fd : Buf (Elt F) (dst.view.loc (tV d i))} (hs : 0 < s.numel) (hSd : dst.view.set ⊆ Sd)
    {h1 : src.view.WordExact} {h2 : dst.view.WordExact} {h3 : DmaTarget.Typed (nD := nD) (p := (tV d i).2) sp (.dma sm) (.here dst)} :
    iprop((src.view.loc (tV d i) ↦[src.view.set]{q} fs) ∗ (dst.view.loc (tV d i) ↦[Sd]{fullShare} fd) ∗ semVal (tV d i, .dma sm) 0) ⊢
      iprop((∀ γ δ κ, inv κ (body EC (dst.view.loc (tV d i)) Sd (fun M => dst.view.write (Elt F) fd (src.view.read (Elt F) fs) M) γ δ) -∗ tok EC δ
          -∗ Flight EC (tV d i) (.dma sm) none dst.view.dmaCredit (count EC γ (code (Finset.univ : Finset s.Idx)))
          -∗ wp frame (wpE defs₀ 𝒱₀ (tV d i) none) Set.univ (k ⟨⟩) Q)
        -∗ wp frame (wpE defs₀ 𝒱₀ (tV d i) none) Set.univ (Prog.lift (.enqueueDma src (.here dst) (.dma sm) h1 h2 h3) >>= k) Q) := by
  iintro ⟨Hs, Hd, Hv⟩ Hk
  iapply (landR d i (q := q) (fs := fs) (fd := fd) hs hSd (P := iprop(∀ γ δ κ, inv κ (body EC (dst.view.loc (tV d i)) Sd (fun M => dst.view.write (Elt F) fd (src.view.read (Elt F) fs) M) γ δ) -∗ tok EC δ
          -∗ Flight EC (tV d i) (.dma sm) none dst.view.dmaCredit (count EC γ (code (Finset.univ : Finset s.Idx)))
          -∗ wp frame (wpE defs₀ 𝒱₀ (tV d i) none) Set.univ (k ⟨⟩) Q)) ?_)
  · intro γ δ κ
    iintro ⟨Hk, ⟨HI, HT⟩, HF⟩
    iapply Hk $$ %γ %δ %κ HI HT HF
  isplitl [Hk]; · iexact Hk
  isplitl [Hs]; · iexact Hs
  isplitl [Hd] <;> iassumption

end Rules

end Cert.Proof.Copies

end
-- ==== Proof.Branch.lean ====
/-
  One arm of the tile's work: the rows brought in by halves, the first half's groups gathered while the second half is
  still landing.
-/
module

public import proofs.«01_k».proof.Proof.Copies

@[expose] public section

noncomputable section

namespace Cert.Proof.Branch

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

open Idealize.ShloMosaic.Transfers Cert.Proof.Copies Cert.Proof.Outer

/-- The `n`-th word of the rows, end to end. -/
def elemX (fx : Vec F S1280000 .f32) (n : ℕ) : F .f32 := if h : n < 1280000 then fx (fun | 0 => ⟨n, h⟩) else zero
/-- The `n`-th node's graph. -/
def elemB (fb : Vec F S10000 .i32) (n : ℕ) : ℕ := if h : n < 10000 then BitVec.toNat (fb (fun | 0 => ⟨n, h⟩)) else 0

/-! ## Where the copies put the words -/

theorem landedX {o : ℕ} {sz off : Fin 1 → ℕ} {inb : ∀ a, (![o] : Fin 1 → ℕ) a + sz a ≤ S40960.size a} {inb' : ∀ a, off a + sz a ≤ S1280000.size a}
    {h : ∀ a, (Rect.unit (s := S40960) ![o] sz inb).stride a = 1} {h' : ∀ a, (Rect.unit (s := S1280000) off sz inb').stride a = 1}
    (fx : Buf (Elt F) (xM.view.loc (tV d i))) (fd : Buf (Elt F) (xvM.view.loc (tV d i))) (j : S40960.Idx) (h1 : o ≤ (j 0).val) (h2 : (j 0).val < o + sz 0) :
    (xvM.slice (Rect.unit (s := S40960) ![o] sz inb) h).view.write (Elt F) fd
      ((xM.slice (Rect.unit (s := S1280000) off sz inb') h').view.read (Elt F) fx) Finset.univ j = elemX fx (off 0 + ((j 0).val - o)) := by
  have hx := inb' 0
  have hlt : off 0 + ((j 0).val - o) < 1280000 := by
    have : off 0 + sz 0 ≤ 1280000 := hx
    omega
  let x : (Rect.unit (s := S40960) ![o] sz inb).shape.Idx := fun | 0 => ⟨(j 0).val - o, show (j 0).val - o < sz 0 by omega⟩
  have he : (Rect.unit (s := S40960) ![o] sz inb).emb x = j := by
    funext a
    match a with
    | 0 => exact Fin.ext (show o + 1 * ((j 0).val - o) = (j 0).val by omega)
  have hr := View.read_slice_write_emb (Val := Elt F) (v := xvM.view) (Rect.unit (s := S40960) ![o] sz inb) fd
    ((xM.slice (Rect.unit (s := S1280000) off sz inb') h').view.read (Elt F) fx) (Finset.mem_univ x)
  rw [he] at hr
  refine hr.trans ?_
  unfold elemX
  rw [dif_pos hlt]
  show fx _ = fx _
  congr 1
  funext a
  match a with
  | 0 => exact Fin.ext (show off 0 + 1 * ((j 0).val - o) = off 0 + ((j 0).val - o) by omega)

theorem landedB {o : ℕ} {sz off : Fin 1 → ℕ} {inb : ∀ a, (![o] : Fin 1 → ℕ) a + sz a ≤ S320.size a} {inb' : ∀ a, off a + sz a ≤ S10000.size a}
    {h : ∀ a, (Rect.unit (s := S320) ![o] sz inb).stride a = 1} {h' : ∀ a, (Rect.unit (s := S10000) off sz inb').stride a = 1}
    (fx : Buf (Elt F) (bM.view.loc (tV d i))) (fd : Buf (Elt F) (bvM.view.loc (tV d i))) (j : S320.Idx) (h1 : o ≤ (j 0).val) (h2 : (j 0).val < o + sz 0) :
    BitVec.toNat (bvM.view.read (Elt F) ((bvM.slice (Rect.unit (s := S320) ![o] sz inb) h).view.write (Elt F) fd
      ((bM.slice (Rect.unit (s := S10000) off sz inb') h').view.read (Elt F) fx) Finset.univ) j) = elemB fx (off 0 + ((j 0).val - o)) := by
  have hx := inb' 0
  have hlt : off 0 + ((j 0).val - o) < 10000 := by
    have : off 0 + sz 0 ≤ 10000 := hx
    omega
  let x : (Rect.unit (s := S320) ![o] sz inb).shape.Idx := fun | 0 => ⟨(j 0).val - o, show (j 0).val - o < sz 0 by omega⟩
  have he : (Rect.unit (s := S320) ![o] sz inb).emb x = j := by
    funext a
    match a with
    | 0 => exact Fin.ext (show o + 1 * ((j 0).val - o) = (j 0).val by omega)
  have hr := View.read_slice_write_emb (Val := Elt F) (v := bvM.view) (Rect.unit (s := S320) ![o] sz inb) fd
    ((bM.slice (Rect.unit (s := S10000) off sz inb') h').view.read (Elt F) fx) (Finset.mem_univ x)
  rw [he] at hr
  refine (congrArg BitVec.toNat hr).trans ?_
  unfold elemB
  rw [dif_pos hlt]
  show BitVec.toNat (fx _) = BitVec.toNat (fx _)
  congr 2
  funext a
  match a with
  | 0 => exact Fin.ext (show off 0 + 1 * ((j 0).val - o) = off 0 + ((j 0).val - o) by omega)

/-! ## The rows' buffer, half landed and landed -/

section States

variable (X : ℕ → F .f32) (n : ℕ) (sz : Fin 1 → ℕ) (inb2 : ∀ a, (![n] : Fin 1 → ℕ) a + sz a ≤ S40960.size a) (s1 s2 s3 : DmaSem sig)
  (O : CellTallies nD τ sig (HIx 1)) (W : Waits sig (HIx 1))

/-- The second half's words. -/
abbrev r2 : Rect S40960 := Rect.unit (s := S40960) ![n] sz inb2

/-- The first half's words are in; the second's are on their way. -/
def Half : sProp 𝕄 :=
  iprop(∃ f1 : Buf (Elt F) (xvM.view.loc (tV d i)), ∃ fs : Finset (r2 n sz inb2).shape.Idx → Buf (Elt F) (xvM.view.loc (tV d i)), ∃ γ δ κ,
    ⌜(∀ j : S40960.Idx, (j 0).val < n → f1 j = X (j 0).val) ∧ ∀ j : S40960.Idx, n ≤ (j 0).val → (j 0).val < n + sz 0 → fs Finset.univ j = X (j 0).val⌝
    ∗ ((xvM.view.loc (tV d i) ↦[(r2 n sz inb2).setᶜ]{fullShare} f1) ∗ inv κ (body EC (xvM.view.loc (tV d i)) (r2 n sz inb2).set fs γ δ) ∗ tok EC δ)
    ∗ Flight EC (tV d i) (.dma s2) none (xvM.slice (r2 n sz inb2) (fun _ => rfl)).view.dmaCredit (count EC γ (code (Finset.univ : Finset (r2 n sz inb2).shape.Idx)))
    ∗ Ow d i O W ∗ semVal (tV d i, .dma s1) 0 ∗ semVal (tV d i, .dma s3) 0)

/-- Both halves are in. -/
def Full (m : ℕ) : sProp 𝕄 :=
  iprop(∃ f : Buf (Elt F) (xvM.view.loc (tV d i)), ⌜∀ j : S40960.Idx, (j 0).val < m → f j = X (j 0).val⌝
    ∗ held d i xvM f ∗ Ow d i O W ∗ semVal (tV d i, .dma s1) 0 ∗ semVal (tV d i, .dma s2) 0 ∗ semVal (tV d i, .dma s3) 0)

theorem not_mem_r2 {j : S40960.Idx} (h : (j 0).val < n) : j ∉ (r2 n sz inb2).set := by
  intro hm
  have := (Rect.mem_set_unit.mp hm 0).1
  exact absurd (show n ≤ (j 0).val from this) (by omega)

theorem mem_r2 {j : S40960.Idx} (h : n ≤ (j 0).val) (h' : (j 0).val < n + sz 0) : j ∈ (r2 n sz inb2).set :=
  Rect.mem_set_unit.mpr fun | 0 => ⟨h, h'⟩

theorem read_whole (h : Buf (Elt F) (xvM.view.loc (tV d i))) (j : S40960.Idx) : xvM.view.readAt (Elt F) (LoadRect.whole S40960) h j = h j := by
  show h _ = h j
  congr 1
  funext a
  exact Fin.ext (by show 0 + 1 * (j a).val = (j a).val; omega)

theorem loads_half : Loads (cs := .vmem) defs₀ 𝒱₀ (tV d i) none xvM (Half d i X n sz inb2 s1 s2 s3 O W) (fun j => X (j 0).val) (fun j => (j 0).val < n) := by
  unfold Half
  refine Loads_ex d i fun f1 => Loads_ex d i fun fs => Loads_ex d i fun γ => Loads_ex d i fun δ => Loads_ex d i fun κ => Loads_pure d i fun hf => Loads_frame d i ?_
  refine loads_landing EC 𝒱₀ (tV d i) none xvM (T := (r2 n sz inb2).setᶜ) (S := (r2 n sz inb2).set) disjoint_compl_left ?_ fun h hh j hj => ?_
  · rw [Finset.union_comm]; exact Finset.union_compl _
  · rw [read_whole, hh j (Finset.mem_compl.mpr (not_mem_r2 n sz inb2 hj))]
    exact hf.1 j hj

theorem loads_full (m : ℕ) : Loads (cs := .vmem) defs₀ 𝒱₀ (tV d i) none xvM (Full d i X s1 s2 s3 O W m) (fun j => X (j 0).val) (fun j => (j 0).val < m) := by
  unfold Full
  refine Loads_ex d i fun f => Loads_pure d i fun hf => Loads_frame d i ?_
  refine loads_held 𝒱₀ (tV d i) none xvM fun j hj => ?_
  rw [read_whole]
  exact hf j hj

end States

/-! ## The two rules -/

theorem set_xv (o : ℕ) (sz : Fin 1 → ℕ) (inb : ∀ a, (![o] : Fin 1 → ℕ) a + sz a ≤ S40960.size a) :
    (xvM.slice (Rect.unit (s := S40960) ![o] sz inb) (fun _ => rfl)).view.set = (Rect.unit (s := S40960) ![o] sz inb).set :=
  View.set_slice_whole _ _

section Rules

variable {X : ℕ → F .f32} {B : ℕ → ℕ} {n nb : ℕ} {sz bz : Fin 1 → ℕ} {inb1 : ∀ a, (![0] : Fin 1 → ℕ) a + sz a ≤ S40960.size a}
  {inb2 : ∀ a, (![n] : Fin 1 → ℕ) a + sz a ≤ S40960.size a} {inb3 : ∀ a, (![0] : Fin 1 → ℕ) a + bz a ≤ S320.size a}
  {s1 s2 s3 : DmaSem sig} {O : CellTallies nD τ sig (HIx 1)} {W : Waits sig (HIx 1)} {α : Type} {Q : α → sProp (MT nD τ sig (HIx 1) (Elt F) ℕ UU ℕ)}
  {off1 off2 off3 : Fin 1 → ℕ} {ix1 : ∀ a, off1 a + sz a ≤ S1280000.size a} {ix2 : ∀ a, off2 a + sz a ≤ S1280000.size a}
  {ix3 : ∀ a, off3 a + bz a ≤ S10000.size a} {k : PUnit → Prog (TpuEff nD τ sig (Elt F) Λ₀ (tV d i).2) α}

/-- What an arm starts from. -/
def Start (q1 q2 q3 : PosShare TreeShare) (fx : Buf (Elt F) (xM.view.loc (tV d i))) (fb : Buf (Elt F) (bM.view.loc (tV d i))) (s1 s2 s3 : DmaSem sig)
    (O : CellTallies nD τ sig (HIx 1)) (W : Waits sig (HIx 1)) (B : ℕ → ℕ) (X : ℕ → F .f32) : sProp 𝕄 :=
  iprop((xM.view.loc (tV d i) ↦[Finset.univ]{q1} fx) ∗ (xM.view.loc (tV d i) ↦[Finset.univ]{q2} fx) ∗ (bM.view.loc (tV d i) ↦[Finset.univ]{q3} fb)
    ∗ (∃ f0, held d i xvM f0) ∗ (∃ g0, held d i bvM g0) ∗ semVal (tV d i, .dma s1) 0 ∗ semVal (tV d i, .dma s2) 0 ∗ semVal (tV d i, .dma s3) 0
    ∗ Ow d i O W ∗ cont d i spM (Tab B (row X) 0) ∗ cont d i cpM (Tab B (fun _ _ => one) 0))

theorem openR {q1 q2 q3 : PosShare TreeShare} {fx : Buf (Elt F) (xM.view.loc (tV d i))} {fb : Buf (Elt F) (bM.view.loc (tV d i))} (hsz : sz 0 = n) (hbz : bz 0 = nb)
    (hn : 0 < n) (hnb : 0 < nb)
    (hX1 : ∀ m < n, elemX fx (off1 0 + m) = X m) (hX2 : ∀ m < n, elemX fx (off2 0 + m) = X (n + m)) (hB : ∀ m < nb, elemB fb (off3 0 + m) = B m)
    {w1 w2 w3 w4 w5 w6 w7 w8 w9 w10 h1 h2 h3}
    (hk : Res d i (Half d i X n sz inb2 s1 s2 s3 O W) X B nb 0 ⊢ wp frame (wpE defs₀ 𝒱₀ (tV d i) none) Set.univ (k ⟨⟩) Q) :
    Start d i q1 q2 q3 fx fb s1 s2 s3 O W B X ⊢ wp frame (wpE defs₀ 𝒱₀ (tV d i) none) Set.univ
      (Prog.lift (.enqueueDma (xM.slice (Rect.unit (s := S1280000) off1 sz ix1) (fun _ => rfl)) (.here (xvM.slice (Rect.unit (s := S40960) ![0] sz inb1) (fun _ => rfl))) (.dma s1) w1 w2 h1) >>= fun _ =>
       Prog.lift (.enqueueDma (xM.slice (Rect.unit (s := S1280000) off2 sz ix2) (fun _ => rfl)) (.here (xvM.slice (Rect.unit (s := S40960) ![n] sz inb2) (fun _ => rfl))) (.dma s2) w3 w4 h2) >>= fun _ =>
       Prog.lift (.enqueueDma (bM.slice (Rect.unit (s := S10000) off3 bz ix3) (fun _ => rfl)) (.here (bvM.slice (Rect.unit (s := S320) ![0] bz inb3) (fun _ => rfl))) (.dma s3) w5 w6 h3) >>= fun _ =>
       Prog.lift (.waitDma2 s3 (bM.slice (Rect.unit (s := S10000) off3 bz ix3) (fun _ => rfl)) (bvM.slice (Rect.unit (s := S320) ![0] bz inb3) (fun _ => rfl)) w7 w8) >>= fun _ =>
       Prog.lift (.waitDma2 s1 (xM.slice (Rect.unit (s := S1280000) off1 sz ix1) (fun _ => rfl)) (xvM.slice (Rect.unit (s := S40960) ![0] sz inb1) (fun _ => rfl)) w9 w10) >>= k) Q := by
  unfold Start
  iintro ⟨Hx1, Hx2, Hb, ⟨%f0, Hxv⟩, ⟨%g0, Hbv⟩, V1, V2, V3, Ho, Ht⟩
  unfold held
  ihave Hx1 := (pointsTo_split_subset (Finset.subset_univ (xM.slice (Rect.unit (s := S1280000) off1 sz ix1) (fun _ => rfl)).view.set)).1 $$ Hx1
  icases Hx1 with ⟨Hx1, -⟩
  ihave Hx2 := (pointsTo_split_subset (Finset.subset_univ (xM.slice (Rect.unit (s := S1280000) off2 sz ix2) (fun _ => rfl)).view.set)).1 $$ Hx2
  icases Hx2 with ⟨Hx2, -⟩
  ihave Hb := (pointsTo_split_subset (Finset.subset_univ (bM.slice (Rect.unit (s := S10000) off3 bz ix3) (fun _ => rfl)).view.set)).1 $$ Hb
  icases Hb with ⟨Hb, -⟩
  ihave Hxv := (pointsTo_split_subset (Finset.subset_univ (r2 n sz inb2).set)).1 $$ Hxv
  icases Hxv with ⟨Hhi, Hlo⟩
  ihave Hlo := (Entails.of_eq (congrArg (fun S : Finset S40960.Idx => (xvM.view.loc (tV d i) ↦[S]{fullShare} f0 : sProp 𝕄))
    (Finset.compl_eq_univ_sdiff (r2 n sz inb2).set).symm)) $$ Hlo
  have hn1 : 0 < (Rect.unit (s := S40960) ![0] sz inb1).shape.numel := by
    show 0 < ∏ a : Fin 1, sz a
    rw [Fin.prod_univ_one, hsz]; exact hn
  have hn2 : 0 < (Rect.unit (s := S320) ![0] bz inb3).shape.numel := by
    show 0 < ∏ a : Fin 1, bz a
    rw [Fin.prod_univ_one, hbz]; exact hnb
  iapply (copyW d i (src := xM.slice (Rect.unit (s := S1280000) off1 sz ix1) (fun _ => rfl)) (dst := xvM.slice (Rect.unit (s := S40960) ![0] sz inb1) (fun _ => rfl)) (sm := s1) (q := q1) (fs := fx) (fd := f0) (Sd := ((r2 n sz inb2).setᶜ : Finset S40960.Idx)) hn1 ?_) $$ [Hx1 Hlo V1]
  · intro j hj
    have hj : j ∈ (Rect.unit (s := S40960) ![0] sz inb1).set := (set_xv _ _ _) ▸ hj
    refine Finset.mem_compl.mpr (not_mem_r2 n sz inb2 ?_)
    have := (Rect.mem_set_unit.mp hj 0).2
    have : (j 0).val < 0 + sz 0 := this
    omega
  · isplitl [Hx1]; · iexact Hx1
    isplitl [Hlo] <;> iassumption
  iintro F1
  iapply (landW d i (src := xM.slice (Rect.unit (s := S1280000) off2 sz ix2) (fun _ => rfl)) (dst := xvM.slice (Rect.unit (s := S40960) ![n] sz inb2) (fun _ => rfl)) (sm := s2) (q := q2) (fs := fx) (fd := f0) (Sd := ((r2 n sz inb2).set : Finset S40960.Idx)) hn1 ?_) $$ [Hx2 Hhi V2]
  · intro j hj
    exact (set_xv _ _ _) ▸ hj
  · isplitl [Hx2]; · iexact Hx2
    isplitl [Hhi] <;> iassumption
  iintro %γ %δ %κ #Hinv Hδ F2
  iapply (copyW d i (src := bM.slice (Rect.unit (s := S10000) off3 bz ix3) (fun _ => rfl)) (dst := bvM.slice (Rect.unit (s := S320) ![0] bz inb3) (fun _ => rfl)) (sm := s3) (q := q3) (fs := fb) (fd := g0) (Sd := Finset.univ) hn2 (Finset.subset_univ _)) $$ [Hb Hbv V3]
  · isplitl [Hb]; · iexact Hb
    isplitl [Hbv] <;> iassumption
  iintro F3
  iapply (waitW d i (O := O) (W := W) rfl) $$ [F3 Ho]
  · isplitl [F3] <;> iassumption
  iintro Hbv V3 Ho
  iapply (waitW d i (O := O) (W := W) rfl) $$ [F1 Ho]
  · isplitl [F1] <;> iassumption
  iintro Hlo V1 Ho
  iapply hk
  unfold Res
  isplitr [Hbv Ht]
  · unfold Half
    iexists _, _, γ, δ, κ
    isplitr
    rotate_left
    · isplitl [Hlo Hδ]
      · isplitl [Hlo]; · iexact Hlo
        isplitr; · iexact Hinv
        iexact Hδ
      isplitl [F2]; · iexact F2
      isplitl [Ho]; · iexact Ho
      isplitl [V1] <;> iassumption
    ipureintro
    refine ⟨fun j hj => ?_, fun j h1 h2 => ?_⟩
    · refine (landedX d i fx f0 j (Nat.zero_le _) (by omega)).trans ?_
      have := hX1 (j 0).val hj
      simpa using this
    · refine (landedX d i fx f0 j h1 h2).trans ?_
      have := hX2 ((j 0).val - n) (by omega)
      rw [this]
      congr 1
      omega
  isplitl [Hbv]
  · unfold cont
    iexists _
    isplitr
    rotate_left
    · iexact Hbv
    ipureintro
    intro j hj
    refine (landedB d i fb g0 j (Nat.zero_le _) (by omega)).trans ?_
    have := hB (j 0).val hj
    simpa using this
  iexact Ht

/-- The wait for the second half. -/
theorem landedR (hsz : sz 0 = n) {t : ℕ} {sp : Space} {src : Memref sig .scVector sp (r2 n sz inb2).shape .f32} {w1 w2}
    (hk : Res d i (Full d i X s1 s2 s3 O W (n + n)) X B nb t ⊢ wp frame (wpE defs₀ 𝒱₀ (tV d i) none) Set.univ (k ⟨⟩) Q) :
    Res d i (Half d i X n sz inb2 s1 s2 s3 O W) X B nb t ⊢ wp frame (wpE defs₀ 𝒱₀ (tV d i) none) Set.univ
      (Prog.lift (.waitDma2 s2 src (xvM.slice (Rect.unit (s := S40960) ![n] sz inb2) (fun _ => rfl)) w1 w2) >>= k) Q := by
  unfold Res
  iintro ⟨HH, Ht⟩
  unfold Half
  icases HH with ⟨%f1, %fs, %γ, %δ, %κ, %hf, ⟨Hlo, #Hinv, Hδ⟩, F2, Ho, V1, V3⟩
  iapply (waitW d i (O := O) (W := W) rfl) $$ [F2 Ho]
  · isplitl [F2] <;> iassumption
  iintro Hγ V2 Ho
  imod (take EC (Set.mem_univ κ)) $$ [Hδ Hγ] with Hhi
  · isplitr; · iexact Hinv
    isplitl [Hδ] <;> iassumption
  ihave Hj := (pointsTo_join (ℓ := xvM.view.loc (tV d i)) (I := ((r2 n sz inb2).setᶜ : Finset S40960.Idx)) (J := ((r2 n sz inb2).set : Finset S40960.Idx)) (disjoint_compl_left (a := ((r2 n sz inb2).set : Finset S40960.Idx)))) $$ [Hlo Hhi]
  · isplitl [Hlo] <;> iassumption
  iapply hk
  unfold Res
  isplitr [Ht]
  · unfold Full
    iexists ((r2 n sz inb2).set.piecewise (fs Finset.univ) f1)
    isplitr
    · ipureintro
      intro j hj
      rcases Nat.lt_or_ge (j 0).val n with h | h
      · rw [Finset.piecewise_eq_of_notMem _ _ _ (not_mem_r2 n sz inb2 h)]
        exact hf.1 j h
      · have h' : (j 0).val < n + sz 0 := by omega
        rw [Finset.piecewise_eq_of_mem _ _ _ (mem_r2 n sz inb2 h h')]
        exact hf.2 j h h'
    isplitl [Hj]
    · ihave Hj := (Entails.of_eq (congrArg (fun S => (xvM.view.loc (tV d i) ↦[S]{fullShare} (r2 n sz inb2).set.piecewise (fs Finset.univ) f1 : sProp 𝕄))
        (show (r2 n sz inb2).setᶜ ∪ (r2 n sz inb2).set = Finset.univ by rw [Finset.union_comm]; exact Finset.union_compl _))) $$ Hj
      iexact Hj
    isplitl [Ho]; · iexact Ho
    isplitl [V1]; · iexact V1
    isplitl [V2] <;> iassumption
  iexact Ht

end Rules

end Cert.Proof.Branch

end
-- ==== Proof.Words.lean ====
/-
  What the kernel computes of a tile's number: where its nodes start, which of the two arms it takes, its row of the output.
-/
module

public import proofs.«01_k».proof.Proof.Branch

@[expose] public section

noncomputable section

namespace Cert.Proof.Words

open Cert.KernelIdeal Cert.KernelIdeal.Gen Cert.Proof.Landing Cert.Proof.Model Cert.Proof.Gather Cert.Proof.Group

open Idealize.ShloMosaic

variable (i : grid0.Coords)

theorem wid_lt : wid i < 32 := by
  have h0 : (i 0).val < 2 := (i 0).isLt
  have h1 : (i 1).val < 16 := (i 1).isLt
  unfold wid
  omega

/-- The tile's number as the kernel computes it. -/
theorem wid_word : Scalar.addi (Scalar.muli (BitVec.ofNat 32 (i 0).val) 16#32) (BitVec.ofNat 32 (i 1).val) = BitVec.ofNat 32 (wid i) := by
  have h0 : (i 0).val < 2 := (i 0).isLt
  have h1 : (i 1).val < 16 := (i 1).isLt
  apply BitVec.eq_of_toNat_eq
  show ((BitVec.ofNat 32 (i 0).val * 16#32) + BitVec.ofNat 32 (i 1).val).toNat = _
  simp only [BitVec.toNat_add, BitVec.toNat_mul, BitVec.toNat_ofNat]
  unfold wid
  omega

theorem off1_val : k0_off1 i 0 = 40960 * wid i := by
  have hw := wid_lt i
  unfold k0_off1
  dsimp only
  rw [wid_word]
  show ((BitVec.ofNat 32 (wid i) * 320#32) * 128#32).toNat = _
  simp only [BitVec.toNat_mul, BitVec.toNat_ofNat]
  omega

theorem off2_val : k0_off2 i 0 = 40960 * wid i + 20480 := by
  have hw := wid_lt i
  unfold k0_off2
  dsimp only
  rw [wid_word]
  show ((BitVec.ofNat 32 (wid i) * 320#32 + 160#32) * 128#32).toNat = _
  simp only [BitVec.toNat_add, BitVec.toNat_mul, BitVec.toNat_ofNat]
  omega

theorem off3_val : k0_off3 i 0 = 320 * wid i := by
  have hw := wid_lt i
  unfold k0_off3
  dsimp only
  rw [wid_word]
  show (BitVec.ofNat 32 (wid i) * 320#32).toNat = _
  simp only [BitVec.toNat_mul, BitVec.toNat_ofNat]
  omega

theorem off9_val : k0_off9 i 0 = wid i ∧ k0_off9 i 1 = 0 := by
  have hw := wid_lt i
  unfold k0_off9
  dsimp only
  rw [wid_word]
  refine ⟨?_, rfl⟩
  show (BitVec.ofNat 32 (wid i)).toNat = _
  simp only [BitVec.toNat_ofNat]
  omega

theorem cond1_iff : k0_cond1 i = 1#1 ↔ wid i < 31 := by
  have hw := wid_lt i
  unfold k0_cond1
  dsimp only
  rw [wid_word]
  generalize wid i = w at hw ⊢
  revert w
  decide

theorem cond2_iff : k0_cond2 i = 1#1 ↔ wid i = 31 := by
  have hw := wid_lt i
  unfold k0_cond2
  dsimp only
  rw [wid_word]
  generalize wid i = w at hw ⊢
  revert w
  decide

end Cert.Proof.Words

end
-- ==== Proof.Fill.lean ====
/-
  The tile empties its two tables: sixteen rows of four stores each, a table's stores counted by row and sixteenth.
-/
module

public import proofs.«01_k».proof.Proof.Group

@[expose] public section

noncomputable section

namespace Cert.Proof.Fill

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- A table whose first `n` row-sixteenths are nought. -/
def Z (n : ℕ) (f : Vec F S16x64 .f32) : Prop := ∀ j : S16x64.Idx, 4 * (j 0).val + (j 1).val / 16 < n → f j = zero

/-- The two tables, `n` and `m` of their row-sixteenths emptied. -/
def Part (P : sProp 𝕄) (n m : ℕ) : sProp 𝕄 := iprop((P ∗ cont d i cpM (Z m)) ∗ cont d i spM (Z n))

theorem Z_step {n : ℕ} {off : Fin 2 → ℕ} {inb : ∀ a, off a + S1x16.size a ≤ S16x64.size a} (h0 : off 0 = n / 4) (h1 : off 1 = 16 * (n % 4))
    {w : S1x16.Idx → F .f32} (hw : ∀ x, w x = zero) (g g' : Vec F S16x64 .f32) (hg : Z n g)
    (hi : ∀ x, g' ((Rect.unit (s := S16x64) off S1x16.size inb).emb x) = w x)
    (ho : ∀ y, y ∉ (Rect.unit (s := S16x64) off S1x16.size inb).set → g' y = g y) : Z (n + 1) g' := by
  intro j hj
  by_cases hm : j ∈ (Rect.unit (s := S16x64) off S1x16.size inb).set
  · rw [← Rect.map_emb_univ] at hm
    obtain ⟨x, -, rfl⟩ := Finset.mem_map.mp hm
    rw [hi, hw]
  · rw [ho _ hm]
    refine hg j ?_
    rcases Nat.lt_or_ge (4 * (j 0).val + (j 1).val / 16) n with h | h
    · exact h
    · exact absurd (Rect.mem_set_unit.mpr (by
        intro a
        have hj1 : (j 1).val < 64 := (j 1).isLt
        match a with
        | 0 => exact ⟨by rw [h0]; omega, by rw [h0]; show (j 0).val < n / 4 + 1; omega⟩
        | 1 => exact ⟨by rw [h1]; omega, by rw [h1]; show (j 1).val < 16 * (n % 4) + 16; omega⟩)) hm

section Rules

variable {P : sProp (MT nD τ sig (HIx 1) (Elt F) ℕ UU ℕ)} {α : Type} {Q : α → sProp (MT nD τ sig (HIx 1) (Elt F) ℕ UU ℕ)} {n m : ℕ}
  {off : Fin 2 → ℕ} {inb : ∀ a, off a + S1x16.size a ≤ S16x64.size a} {k : PUnit → Prog (TpuEff nD τ sig (Elt F) Λ₀ (tV d i).2) α}
  {w : S1x16.Idx → F .f32}

/-- A step on the table of sums. -/
theorem fillS (h0 : off 0 = n / 4) (h1 : off 1 = 16 * (n % 4)) (hw : ∀ x, w x = zero)
    {hl : spM.view.LoadsAt (Rect.unit (s := S16x64) off S1x16.size inb).toLoadRect}
    {hs : (spM.access (Rect.unit (s := S16x64) off S1x16.size inb)).Stores Finset.univ}
    {hm : Finset.univ = Finset.univ ∨ ∀ a, (Rect.unit (s := S16x64) off S1x16.size inb).stride a = 1}
    (hk : Part d i P (n + 1) m ⊢ wp frame (wpE defs₀ 𝒱₀ (tV d i) none) Set.univ (k ⟨⟩) Q) :
    Part d i P n m ⊢ wp frame (wpE defs₀ 𝒱₀ (tV d i) none) Set.univ
      (Prog.lift (.load spM (Rect.unit (s := S16x64) off S1x16.size inb).toLoadRect hl) >>= fun _ =>
        Prog.lift (.store spM (Rect.unit (s := S16x64) off S1x16.size inb) w Finset.univ hs hm) >>= k) Q := by
  show _ ⊢ wp _ _ _ (.op (.load spM (Rect.unit (s := S16x64) off S1x16.size inb).toLoadRect hl) fun _ =>
    .op (.store spM (Rect.unit (s := S16x64) off S1x16.size inb) w Finset.univ hs hm) k) Q
  refine loadR d i fun g hg => storeR d i (R' := Z (n + 1)) (fun g1 h1' g' hi ho => ?_) hk
  subst h1'
  exact Z_step h0 h1 hw _ _ hg hi ho

/-- A step on the table of counts. -/
theorem fillC (h0 : off 0 = m / 4) (h1 : off 1 = 16 * (m % 4)) (hw : ∀ x, w x = zero)
    {hl : cpM.view.LoadsAt (Rect.unit (s := S16x64) off S1x16.size inb).toLoadRect}
    {hs : (cpM.access (Rect.unit (s := S16x64) off S1x16.size inb)).Stores Finset.univ}
    {hm : Finset.univ = Finset.univ ∨ ∀ a, (Rect.unit (s := S16x64) off S1x16.size inb).stride a = 1}
    (hk : Part d i P n (m + 1) ⊢ wp frame (wpE defs₀ 𝒱₀ (tV d i) none) Set.univ (k ⟨⟩) Q) :
    Part d i P n m ⊢ wp frame (wpE defs₀ 𝒱₀ (tV d i) none) Set.univ
      (Prog.lift (.load cpM (Rect.unit (s := S16x64) off S1x16.size inb).toLoadRect hl) >>= fun _ =>
        Prog.lift (.store cpM (Rect.unit (s := S16x64) off S1x16.size inb) w Finset.univ hs hm) >>= k) Q := by
  show _ ⊢ wp _ _ _ (.op (.load cpM (Rect.unit (s := S16x64) off S1x16.size inb).toLoadRect hl) fun _ =>
    .op (.store cpM (Rect.unit (s := S16x64) off S1x16.size inb) w Finset.univ hs hm) k) Q
  have sw : ∀ A B C : sProp 𝕄, iprop((A ∗ B) ∗ C) ⊢ iprop((A ∗ C) ∗ B) := fun A B C => by
    iintro ⟨⟨HA, HB⟩, HC⟩
    isplitr [HB]
    · isplitl [HA]; · iexact HA
      iexact HC
    · iexact HB
  unfold Part at hk ⊢
  refine (sw _ _ _).trans (loadR d i fun g hg => storeR d i (R' := Z (m + 1)) (fun g1 h1' g' hi ho => ?_) ((sw _ _ _).trans hk))
  subst h1'
  exact Z_step h0 h1 hw _ _ hg hi ho

end Rules

/-- The lane's own number. -/
theorem lane_word0 (x : S16.Idx) : (iota .scVector S16 32 [0] iota_S16_d0_w32_scVector x).toNat = (x 0).val := by
  have hx : (x 0).val < 16 := (x 0).isLt
  have h : iota .scVector S16 32 [0] iota_S16_d0_w32_scVector x = BitVec.ofNat 32 (x 0).val := by
    show BitVec.ofNat 32 _ = _
    congr 1
    simp
  rw [h, BitVec.toNat_ofNat]
  omega

section Parts

variable {P : sProp (MT nD τ sig (HIx 1) (Elt F) ℕ UU ℕ)}

theorem part3 : Part d i P 0 0 ⊢ wp frame (wpE defs₀ 𝒱₀ (tV d i) none) Set.univ
    (k0_part3 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3)
    fun r => iprop(Part d i P 4 4 ∗ ⌜(∀ x, (r.2.1 x).toNat = (x 0).val) ∧ r.2.2.1 = k0_pay27 ∧ r.2.2.2 = k0_pay28⌝) := by
  rw [k0_part3_eq_skeleton]
  unfold k0_part3_skel
  dsimp only
  refine fillS d i rfl rfl (fun _ => rfl) ?_
  refine fillC d i rfl rfl (fun _ => rfl) ?_
  refine fillS d i rfl rfl (fun _ => rfl) ?_
  refine fillC d i rfl rfl (fun _ => rfl) ?_
  refine fillS d i rfl rfl (fun _ => rfl) ?_
  refine fillC d i rfl rfl (fun _ => rfl) ?_
  refine fillS d i rfl rfl (fun _ => rfl) ?_
  refine fillC d i rfl rfl (fun _ => rfl) ?_
  rw [wp_pure]
  iintro H
  imodintro
  isplitl [H]; · iexact H
  ipureintro
  exact ⟨fun x => lane_word0 x, rfl, rfl⟩

variable (v3 : FVec F S16 .f32) (hv3 : ∀ x, v3 x = zero)

include hv3 in
theorem part4 : Part d i P 4 4 ⊢ wp frame (wpE defs₀ 𝒱₀ (tV d i) none) Set.univ
    (k0_part4 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 9 9 := by
  rw [k0_part4_eq_skeleton]
  unfold k0_part4_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part5 : Part d i P 9 9 ⊢ wp frame (wpE defs₀ 𝒱₀ (tV d i) none) Set.univ
    (k0_part5 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 14 14 := by
  rw [k0_part5_eq_skeleton]
  unfold k0_part5_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part6 : Part d i P 14 14 ⊢ wp frame (wpE defs₀ 𝒱₀ (tV d i) none) Set.univ
    (k0_part6 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 19 19 := by
  rw [k0_part6_eq_skeleton]
  unfold k0_part6_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part7 : Part d i P 19 19 ⊢ wp frame (wpE defs₀ 𝒱₀ (tV d i) none) Set.univ
    (k0_part7 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 24 24 := by
  rw [k0_part7_eq_skeleton]
  unfold k0_part7_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part8 : Part d i P 24 24 ⊢ wp frame (wpE defs₀ 𝒱₀ (tV d i) none) Set.univ
    (k0_part8 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 29 29 := by
  rw [k0_part8_eq_skeleton]
  unfold k0_part8_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part9 : Part d i P 29 29 ⊢ wp frame (wpE defs₀ 𝒱₀ (tV d i) none) Set.univ
    (k0_part9 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 34 34 := by
  rw [k0_part9_eq_skeleton]
  unfold k0_part9_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part10 : Part d i P 34 34 ⊢ wp frame (wpE defs₀ 𝒱₀ (tV d i) none) Set.univ
    (k0_part10 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 39 39 := by
  rw [k0_part10_eq_skeleton]
  unfold k0_part10_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part11 : Part d i P 39 39 ⊢ wp frame (wpE defs₀ 𝒱₀ (tV d i) none) Set.univ
    (k0_part11 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 44 44 := by
  rw [k0_part11_eq_skeleton]
  unfold k0_part11_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part12 : Part d i P 44 44 ⊢ wp frame (wpE defs₀ 𝒱₀ (tV d i) none) Set.univ
    (k0_part12 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 49 49 := by
  rw [k0_part12_eq_skeleton]
  unfold k0_part12_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part13 : Part d i P 49 49 ⊢ wp frame (wpE defs₀ 𝒱₀ (tV d i) none) Set.univ
    (k0_part13 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 54 54 := by
  rw [k0_part13_eq_skeleton]
  unfold k0_part13_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part14 : Part d i P 54 54 ⊢ wp frame (wpE defs₀ 𝒱₀ (tV d i) none) Set.univ
    (k0_part14 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun _ => Part d i P 59 59 := by
  rw [k0_part14_eq_skeleton]
  unfold k0_part14_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  iexact H

include hv3 in
theorem part15 : Part d i P 59 59 ⊢ wp frame (wpE defs₀ 𝒱₀ (tV d i) none) Set.univ
    (k0_part15 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v3)
    fun r => iprop(Part d i P 64 64 ∗ ⌜r = k0_pay29⌝) := by
  rw [k0_part15_eq_skeleton]
  unfold k0_part15_skel
  dsimp only
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  refine fillS d i rfl rfl (fun _ => hv3 _) ?_
  refine fillC d i rfl rfl (fun _ => hv3 _) ?_
  rw [wp_pure]
  iintro H
  imodintro
  isplitl [H]; · iexact H
  ipureintro
  rfl

end Parts

end Cert.Proof.Fill

end
-- ==== Proof.Reduce.lean ====
/-
  The tile's last sums: each table's columns added down the sixteen rows from the first, sixteen columns at a time, and
  the totals stored.
-/
module

public import Idealize.ShloMosaic.Lib.Pipeline.Value
public import proofs.«01_k».proof.Proof.Fill

@[expose] public section

noncomputable section

namespace Cert.Proof.Reduce

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- A table that reads `f`, lane by graph. -/
def TabOf (f : ℕ → ℕ → F .f32) (g : Vec F S16x64 .f32) : Prop := ∀ j, g j = f (j 0).val (j 1).val
/-- Totals, the first `n` of them the sums of `f`'s columns. -/
def Out (f : ℕ → ℕ → F .f32) (n : ℕ) (g : Vec F S64 .f32) : Prop := ∀ j : S64.Idx, (j 0).val < n → g j = col (fun l => f l (j 0).val) 15

/-- The two tables and the totals so far. -/
def Red (P : sProp 𝕄) (f c : ℕ → ℕ → F .f32) (n m : ℕ) : sProp 𝕄 :=
  iprop(P ∗ cont d i spM (TabOf f) ∗ cont d i cpM (TabOf c) ∗ cont d i svM (Out f n) ∗ cont d i cvM (Out c m))

/-- Sixteen elements of row `r` of `f`, from column `o`. -/
def Ld (f : ℕ → ℕ → F .f32) (r o : ℕ) (g : Vec F S1x16 .f32) : Prop := ∀ x : S1x16.Idx, g x = f r (o + (x 1).val)
/-- Sixteen columns of `f` from `o`, added down to row `k`. -/
def Sm (f : ℕ → ℕ → F .f32) (o k : ℕ) (v : FVec F S16 .f32) : Prop := ∀ x : S16.Idx, v x = col (fun l => f l (o + (x 0).val)) k

theorem cast_at (w : Vec F S1x16 .f32) (h : S1x16.ShapeCasts S16) (x : S16.Idx) :
    shapeCast S16 w h x = w (fun | 0 => ⟨0, by decide⟩ | 1 => x 0) := by
  refine shapeCast_apply w h x _ ?_
  refine (Shape.rowMajor_val_two (d := ![1, 16]) _).trans (Eq.trans ?_ (Shape.rowMajor_val_one (d := ![16]) _).symm)
  show 0 * 16 + (x 0).val = (x 0).val
  omega

theorem Sm.of {f : ℕ → ℕ → F .f32} {o : ℕ} {w : Vec F S1x16 .f32} (hw : Ld f 0 o w) {h : S1x16.ShapeCasts S16} : Sm f o 0 (shapeCast S16 w h) :=
  fun x => (cast_at w h x).trans (hw _)

theorem Sm.add {f : ℕ → ℕ → F .f32} {o k : ℕ} {v : FVec F S16 .f32} (hv : Sm f o k v) {w : Vec F S1x16 .f32} (hw : Ld f (k + 1) o w)
    {h : S1x16.ShapeCasts S16} : Sm f o (k + 1) (addf v (shapeCast S16 w h)) := fun x => by
  show FloatOps.addf (v x) (shapeCast S16 w h x) = FloatOps.addf _ _
  rw [hv x, cast_at w h x, hw]

section Moves

theorem pullB (A B C D E : sProp 𝕄) : iprop(A ∗ B ∗ C ∗ D ∗ E) ⊢ iprop((A ∗ C ∗ D ∗ E) ∗ B) := by
  iintro ⟨HA, HB, HC, HD, HE⟩
  isplitr [HB]
  · isplitl [HA]; · iexact HA
    isplitl [HC]; · iexact HC
    isplitl [HD]; · iexact HD
    iexact HE
  · iexact HB

theorem pullB' (A B C D E : sProp 𝕄) : iprop((A ∗ C ∗ D ∗ E) ∗ B) ⊢ iprop(A ∗ B ∗ C ∗ D ∗ E) := by
  iintro ⟨⟨HA, HC, HD, HE⟩, HB⟩
  isplitl [HA]; · iexact HA
  isplitl [HB]; · iexact HB
  isplitl [HC]; · iexact HC
  isplitl [HD]; · iexact HD
  iexact HE

theorem pullC (A B C D E : sProp 𝕄) : iprop(A ∗ B ∗ C ∗ D ∗ E) ⊢ iprop((A ∗ B ∗ D ∗ E) ∗ C) := by
  iintro ⟨HA, HB, HC, HD, HE⟩
  isplitr [HC]
  · isplitl [HA]; · iexact HA
    isplitl [HB]; · iexact HB
    isplitl [HD]; · iexact HD
    iexact HE
  · iexact HC

theorem pullC' (A B C D E : sProp 𝕄) : iprop((A ∗ B ∗ D ∗ E) ∗ C) ⊢ iprop(A ∗ B ∗ C ∗ D ∗ E) := by
  iintro ⟨⟨HA, HB, HD, HE⟩, HC⟩
  isplitl [HA]; · iexact HA
  isplitl [HB]; · iexact HB
  isplitl [HC]; · iexact HC
  isplitl [HD]; · iexact HD
  iexact HE

theorem pullD (A B C D E : sProp 𝕄) : iprop(A ∗ B ∗ C ∗ D ∗ E) ⊢ iprop((A ∗ B ∗ C ∗ E) ∗ D) := by
  iintro ⟨HA, HB, HC, HD, HE⟩
  isplitr [HD]
  · isplitl [HA]; · iexact HA
    isplitl [HB]; · iexact HB
    isplitl [HC]; · iexact HC
    iexact HE
  · iexact HD

theorem pullD' (A B C D E : sProp 𝕄) : iprop((A ∗ B ∗ C ∗ E) ∗ D) ⊢ iprop(A ∗ B ∗ C ∗ D ∗ E) := by
  iintro ⟨⟨HA, HB, HC, HE⟩, HD⟩
  isplitl [HA]; · iexact HA
  isplitl [HB]; · iexact HB
  isplitl [HC]; · iexact HC
  isplitl [HD]; · iexact HD
  iexact HE

theorem pullE (A B C D E : sProp 𝕄) : iprop(A ∗ B ∗ C ∗ D ∗ E) ⊢ iprop((A ∗ B ∗ C ∗ D) ∗ E) := by
  iintro ⟨HA, HB, HC, HD, HE⟩
  isplitr [HE]
  · isplitl [HA]; · iexact HA
    isplitl [HB]; · iexact HB
    isplitl [HC]; · iexact HC
    iexact HD
  · iexact HE

theorem pullE' (A B C D E : sProp 𝕄) : iprop((A ∗ B ∗ C ∗ D) ∗ E) ⊢ iprop(A ∗ B ∗ C ∗ D ∗ E) := by
  iintro ⟨⟨HA, HB, HC, HD⟩, HE⟩
  isplitl [HA]; · iexact HA
  isplitl [HB]; · iexact HB
  isplitl [HC]; · iexact HC
  isplitl [HD]; · iexact HD
  iexact HE

theorem sep_mono_right {A B C : sProp 𝕄} (h : B ⊢ C) : iprop(A ∗ B) ⊢ iprop(A ∗ C) := by
  iintro ⟨HA, HB⟩
  isplitl [HA]; · iexact HA
  iapply h $$ HB

end Moves

section Rules

variable {P : sProp (MT nD τ sig (HIx 1) (Elt F) ℕ UU ℕ)} {α : Type} {Q : α → sProp (MT nD τ sig (HIx 1) (Elt F) ℕ UU ℕ)} {n m : ℕ}
  {f c : ℕ → ℕ → F .f32}

theorem cont_mono {cs : CoreSpace} {s : Shape} {e : EltTy} {mm : Memref sig .scVector cs s e} {R R' : (s.Idx → Elt F e) → Prop}
    (h : ∀ g, R g → R' g) : cont d i mm R ⊢ cont d i mm R' := by
  unfold cont
  iintro ⟨%g, %hg, Hm⟩
  iexists g
  isplitr
  · ipureintro; exact h _ hg
  iexact Hm

section Loads

variable {off : Fin 2 → ℕ} {inb : ∀ a, off a + S1x16.size a ≤ S16x64.size a}
  {k : Vec F S1x16 .f32 → Prog (TpuEff nD τ sig (Elt F) Λ₀ (tV d i).2) α}

theorem ld_of {g : Vec F S16x64 .f32} (hg : TabOf f g) :
    Ld f (off 0) (off 1) (fun x => g ((Rect.unit (s := S16x64) off S1x16.size inb).emb x)) := fun x => by
  have h0 : (((Rect.unit (s := S16x64) off S1x16.size inb).emb x) 0).val = off 0 := by
    show off 0 + 1 * (x 0).val = _
    have : (x 0).val < 1 := (x 0).isLt
    omega
  have h1 : (((Rect.unit (s := S16x64) off S1x16.size inb).emb x) 1).val = off 1 + (x 1).val := by
    show off 1 + 1 * (x 1).val = _
    omega
  show g _ = _
  rw [hg, h0, h1]

/-- A load from the table of sums, -/
theorem ldS {hl : spM.view.LoadsAt (Rect.unit (s := S16x64) off S1x16.size inb).toLoadRect}
    (hk : ∀ g, Ld f (off 0) (off 1) g → Red d i P f c n m ⊢ wp frame (wpE defs₀ 𝒱₀ (tV d i) none) Set.univ (k g) Q) :
    Red d i P f c n m ⊢ wp frame (wpE defs₀ 𝒱₀ (tV d i) none) Set.univ
      (Prog.lift (.load spM (Rect.unit (s := S16x64) off S1x16.size inb).toLoadRect hl) >>= k) Q := by
  show _ ⊢ wp _ _ _ (.op (.load spM (Rect.unit (s := S16x64) off S1x16.size inb).toLoadRect hl) k) Q
  unfold Red at hk ⊢
  refine (pullB _ _ _ _ _).trans (loadR d i (R := TabOf f) fun g hg => ((sep_mono_right (cont_mono d i fun g' h => by rw [h]; exact hg)).trans
    (pullB' _ _ _ _ _)).trans (hk _ (ld_of hg)))

/-- and from the table of counts. -/
theorem ldC {hl : cpM.view.LoadsAt (Rect.unit (s := S16x64) off S1x16.size inb).toLoadRect}
    (hk : ∀ g, Ld c (off 0) (off 1) g → Red d i P f c n m ⊢ wp frame (wpE defs₀ 𝒱₀ (tV d i) none) Set.univ (k g) Q) :
    Red d i P f c n m ⊢ wp frame (wpE defs₀ 𝒱₀ (tV d i) none) Set.univ
      (Prog.lift (.load cpM (Rect.unit (s := S16x64) off S1x16.size inb).toLoadRect hl) >>= k) Q := by
  show _ ⊢ wp _ _ _ (.op (.load cpM (Rect.unit (s := S16x64) off S1x16.size inb).toLoadRect hl) k) Q
  unfold Red at hk ⊢
  refine (pullC _ _ _ _ _).trans (loadR d i (R := TabOf c) fun g hg => ((sep_mono_right (cont_mono d i fun g' h => by rw [h]; exact hg)).trans
    (pullC' _ _ _ _ _)).trans (hk _ (ld_of hg)))

end Loads

section Stores

variable {off : Fin 1 → ℕ} {inb : ∀ a, off a + S16.size a ≤ S64.size a}
  {k : PUnit → Prog (TpuEff nD τ sig (Elt F) Λ₀ (tV d i).2) α} {w : S16.Idx → F .f32}

theorem out_step {n : ℕ} (h0 : off 0 = n) (hw : Sm f n 15 w) (g g' : Vec F S64 .f32) (hg : Out f n g)
    (hi : ∀ x, g' ((Rect.unit (s := S64) off S16.size inb).emb x) = w x)
    (ho : ∀ y, y ∉ (Rect.unit (s := S64) off S16.size inb).set → g' y = g y) : Out f (n + 16) g' := by
  intro j hj
  by_cases hm : j ∈ (Rect.unit (s := S64) off S16.size inb).set
  · rw [← Rect.map_emb_univ] at hm
    obtain ⟨x, -, rfl⟩ := Finset.mem_map.mp hm
    have hx : (((Rect.unit (s := S64) off S16.size inb).emb x) 0).val = n + (x 0).val := by
      show off 0 + 1 * (x 0).val = _
      omega
    rw [hi, hw, hx]
  · rw [ho _ hm]
    refine hg j ?_
    rcases Nat.lt_or_ge (j 0).val n with h | h
    · exact h
    · exact absurd (Rect.mem_set_unit.mpr (by
        intro a
        match a with
        | 0 => exact ⟨by omega, by show (j 0).val < off 0 + 16; omega⟩)) hm

/-- A store of totals: of sums, -/
theorem stS (h0 : off 0 = n) (hw : Sm f n 15 w)
    {hl : svM.view.LoadsAt (Rect.unit (s := S64) off S16.size inb).toLoadRect}
    {hs : (svM.access (Rect.unit (s := S64) off S16.size inb)).Stores Finset.univ}
    {hm : Finset.univ = Finset.univ ∨ ∀ a, (Rect.unit (s := S64) off S16.size inb).stride a = 1}
    (hk : Red d i P f c (n + 16) m ⊢ wp frame (wpE defs₀ 𝒱₀ (tV d i) none) Set.univ (k ⟨⟩) Q) :
    Red d i P f c n m ⊢ wp frame (wpE defs₀ 𝒱₀ (tV d i) none) Set.univ
      (Prog.lift (.load svM (Rect.unit (s := S64) off S16.size inb).toLoadRect hl) >>= fun _ =>
        Prog.lift (.store svM (Rect.unit (s := S64) off S16.size inb) w Finset.univ hs hm) >>= k) Q := by
  show _ ⊢ wp _ _ _ (.op (.load svM (Rect.unit (s := S64) off S16.size inb).toLoadRect hl) fun _ =>
    .op (.store svM (Rect.unit (s := S64) off S16.size inb) w Finset.univ hs hm) k) Q
  unfold Red at hk ⊢
  refine (pullD _ _ _ _ _).trans (loadR d i (R := Out f n) fun g hg =>
    storeR d i (R := (· = g)) (R' := Out f (n + 16)) (fun g1 h1 g' hi ho => out_step h0 hw g g' hg hi (fun y hy => (ho y hy).trans (congrFun h1 y)))
      ((pullD' _ _ _ _ _).trans hk))

/-- and of counts. -/
theorem stC (h0 : off 0 = m) (hw : Sm c m 15 w)
    {hl : cvM.view.LoadsAt (Rect.unit (s := S64) off S16.size inb).toLoadRect}
    {hs : (cvM.access (Rect.unit (s := S64) off S16.size inb)).Stores Finset.univ}
    {hm : Finset.univ = Finset.univ ∨ ∀ a, (Rect.unit (s := S64) off S16.size inb).stride a = 1}
    (hk : Red d i P f c n (m + 16) ⊢ wp frame (wpE defs₀ 𝒱₀ (tV d i) none) Set.univ (k ⟨⟩) Q) :
    Red d i P f c n m ⊢ wp frame (wpE defs₀ 𝒱₀ (tV d i) none) Set.univ
      (Prog.lift (.load cvM (Rect.unit (s := S64) off S16.size inb).toLoadRect hl) >>= fun _ =>
        Prog.lift (.store cvM (Rect.unit (s := S64) off S16.size inb) w Finset.univ hs hm) >>= k) Q := by
  show _ ⊢ wp _ _ _ (.op (.load cvM (Rect.unit (s := S64) off S16.size inb).toLoadRect hl) fun _ =>
    .op (.store cvM (Rect.unit (s := S64) off S16.size inb) w Finset.univ hs hm) k) Q
  unfold Red at hk ⊢
  refine (pullE _ _ _ _ _).trans (loadR d i (R := Out c m) fun g hg =>
    storeR d i (R := (· = g)) (R' := Out c (m + 16)) (fun g1 h1 g' hi ho => out_step h0 hw g g' hg hi (fun y hy => (ho y hy).trans (congrFun h1 y)))
      ((pullE' _ _ _ _ _).trans hk))

end Stores

end Rules

section Parts

variable {P : sProp (MT nD τ sig (HIx 1) (Elt F) ℕ UU ℕ)} {f c : ℕ → ℕ → F .f32}

theorem part17 {v289 : FVec F S16 .f32} (h_v289 : Sm f 0 1 v289) {v292 : FVec F S16 .f32} (h_v292 : Sm c 0 1 v292) {v294_ld : Vec F S1x16 .f32} (h_v294_ld : Ld f 2 0 v294_ld) :
    Red d i P f c 0 0 ⊢ wp frame (wpE defs₀ 𝒱₀ (tV d i) none) Set.univ
      (k0_part17 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v289 v292 v294_ld)
      fun r => iprop(Red d i P f c 0 0 ∗ ⌜Sm f 0 6 (r.1) ∧ Sm c 0 6 (r.2.1) ∧ Ld f 7 0 (r.2.2)⌝) := by
  rw [k0_part17_eq_skeleton]
  unfold k0_part17_skel
  dsimp only
  refine ldC d i fun v297_ld h_v297_ld => ?_
  refine ldS d i fun v300_ld h_v300_ld => ?_
  refine ldC d i fun v303_ld h_v303_ld => ?_
  refine ldS d i fun v306_ld h_v306_ld => ?_
  refine ldC d i fun v309_ld h_v309_ld => ?_
  refine ldS d i fun v312_ld h_v312_ld => ?_
  refine ldC d i fun v315_ld h_v315_ld => ?_
  refine ldS d i fun v318_ld h_v318_ld => ?_
  refine ldC d i fun v321_ld h_v321_ld => ?_
  refine ldS d i fun v324_ld h_v324_ld => ?_
  rw [wp_pure]
  iintro H
  imodintro
  isplitl [H]; · iexact H
  ipureintro
  exact ⟨(((((h_v289.add h_v294_ld).add h_v300_ld).add h_v306_ld).add h_v312_ld).add h_v318_ld), (((((h_v292.add h_v297_ld).add h_v303_ld).add h_v309_ld).add h_v315_ld).add h_v321_ld), h_v324_ld⟩

theorem part18 {v319 : FVec F S16 .f32} (h_v319 : Sm f 0 6 v319) {v322 : FVec F S16 .f32} (h_v322 : Sm c 0 6 v322) {v324_ld : Vec F S1x16 .f32} (h_v324_ld : Ld f 7 0 v324_ld) :
    Red d i P f c 0 0 ⊢ wp frame (wpE defs₀ 𝒱₀ (tV d i) none) Set.univ
      (k0_part18 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v319 v322 v324_ld)
      fun r => iprop(Red d i P f c 0 0 ∗ ⌜Sm f 0 11 (r.1) ∧ Sm c 0 11 (r.2.1) ∧ Ld f 12 0 (r.2.2)⌝) := by
  rw [k0_part18_eq_skeleton]
  unfold k0_part18_skel
  dsimp only
  refine ldC d i fun v327_ld h_v327_ld => ?_
  refine ldS d i fun v330_ld h_v330_ld => ?_
  refine ldC d i fun v333_ld h_v333_ld => ?_
  refine ldS d i fun v336_ld h_v336_ld => ?_
  refine ldC d i fun v339_ld h_v339_ld => ?_
  refine ldS d i fun v342_ld h_v342_ld => ?_
  refine ldC d i fun v345_ld h_v345_ld => ?_
  refine ldS d i fun v348_ld h_v348_ld => ?_
  refine ldC d i fun v351_ld h_v351_ld => ?_
  refine ldS d i fun v354_ld h_v354_ld => ?_
  rw [wp_pure]
  iintro H
  imodintro
  isplitl [H]; · iexact H
  ipureintro
  exact ⟨(((((h_v319.add h_v324_ld).add h_v330_ld).add h_v336_ld).add h_v342_ld).add h_v348_ld), (((((h_v322.add h_v327_ld).add h_v333_ld).add h_v339_ld).add h_v345_ld).add h_v351_ld), h_v354_ld⟩

set_option cleanup.letToHave false in
theorem part19 {v349 : FVec F S16 .f32} (h_v349 : Sm f 0 11 v349) {v352 : FVec F S16 .f32} (h_v352 : Sm c 0 11 v352) {v354_ld : Vec F S1x16 .f32} (h_v354_ld : Ld f 12 0 v354_ld) :
    Red d i P f c 0 0 ⊢ wp frame (wpE defs₀ 𝒱₀ (tV d i) none) Set.univ
      (k0_part19 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v349 v352 v354_ld)
      fun r => iprop(Red d i P f c 16 16 ∗ ⌜Sm f 16 0 (r.1) ∧ Sm c 16 0 (r.2)⌝) := by
  rw [k0_part19_eq_skeleton]
  unfold k0_part19_skel
  dsimp only
  refine ldC d i fun v357_ld h_v357_ld => ?_
  refine ldS d i fun v360_ld h_v360_ld => ?_
  refine ldC d i fun v363_ld h_v363_ld => ?_
  refine ldS d i fun v366_ld h_v366_ld => ?_
  refine ldC d i fun v369_ld h_v369_ld => ?_
  refine ldS d i fun v372_ld h_v372_ld => ?_
  refine ldC d i fun v375_ld h_v375_ld => ?_
  have h_arg10_0 : Sm f 0 15 (k0_pay70 v349 v354_ld v360_ld v366_ld v372_ld) := ((((h_v349.add h_v354_ld).add h_v360_ld).add h_v366_ld).add h_v372_ld)
  refine stS d i (off := ![0]) (inb := inb_S64_S16_0) (n := 0) (w := (k0_pay70 v349 v354_ld v360_ld v366_ld v372_ld)) rfl ?_ (hl := View.loadsAt_vmem h_S16) (hs := View.stores_vmem_bits_univ h_S16 rfl) (hm := .inl rfl) ?_
  · exact h_arg10_0
  have h_arg11_0 : Sm c 0 15 (k0_pay71 v352 v357_ld v363_ld v369_ld v375_ld) := ((((h_v352.add h_v357_ld).add h_v363_ld).add h_v369_ld).add h_v375_ld)
  refine stC d i (off := ![0]) (inb := inb_S64_S16_0) (m := 0) (w := (k0_pay71 v352 v357_ld v363_ld v369_ld v375_ld)) rfl ?_ (hl := View.loadsAt_vmem h_S16) (hs := View.stores_vmem_bits_univ h_S16 rfl) (hm := .inl rfl) ?_
  · exact h_arg11_0
  refine ldS d i fun v380_ld h_v380_ld => ?_
  refine ldC d i fun v382_ld h_v382_ld => ?_
  rw [wp_pure]
  iintro H
  imodintro
  isplitl [H]; · iexact H
  ipureintro
  exact ⟨(Sm.of h_v380_ld), (Sm.of h_v382_ld)⟩

theorem part20 {v380 : FVec F S16 .f32} (h_v380 : Sm f 16 0 v380) {v382 : FVec F S16 .f32} (h_v382 : Sm c 16 0 v382) :
    Red d i P f c 16 16 ⊢ wp frame (wpE defs₀ 𝒱₀ (tV d i) none) Set.univ
      (k0_part20 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v380 v382)
      fun r => iprop(Red d i P f c 16 16 ∗ ⌜Sm f 16 5 (r.1) ∧ Sm c 16 5 (r.2)⌝) := by
  rw [k0_part20_eq_skeleton]
  unfold k0_part20_skel
  dsimp only
  refine ldS d i fun v384_ld h_v384_ld => ?_
  refine ldC d i fun v387_ld h_v387_ld => ?_
  refine ldS d i fun v390_ld h_v390_ld => ?_
  refine ldC d i fun v393_ld h_v393_ld => ?_
  refine ldS d i fun v396_ld h_v396_ld => ?_
  refine ldC d i fun v399_ld h_v399_ld => ?_
  refine ldS d i fun v402_ld h_v402_ld => ?_
  refine ldC d i fun v405_ld h_v405_ld => ?_
  refine ldS d i fun v408_ld h_v408_ld => ?_
  refine ldC d i fun v411_ld h_v411_ld => ?_
  rw [wp_pure]
  iintro H
  imodintro
  isplitl [H]; · iexact H
  ipureintro
  exact ⟨(((((h_v380.add h_v384_ld).add h_v390_ld).add h_v396_ld).add h_v402_ld).add h_v408_ld), (((((h_v382.add h_v387_ld).add h_v393_ld).add h_v399_ld).add h_v405_ld).add h_v411_ld)⟩

theorem part21 {v409 : FVec F S16 .f32} (h_v409 : Sm f 16 5 v409) {v412 : FVec F S16 .f32} (h_v412 : Sm c 16 5 v412) :
    Red d i P f c 16 16 ⊢ wp frame (wpE defs₀ 𝒱₀ (tV d i) none) Set.univ
      (k0_part21 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v409 v412)
      fun r => iprop(Red d i P f c 16 16 ∗ ⌜Sm f 16 10 (r.1) ∧ Sm c 16 10 (r.2)⌝) := by
  rw [k0_part21_eq_skeleton]
  unfold k0_part21_skel
  dsimp only
  refine ldS d i fun v414_ld h_v414_ld => ?_
  refine ldC d i fun v417_ld h_v417_ld => ?_
  refine ldS d i fun v420_ld h_v420_ld => ?_
  refine ldC d i fun v423_ld h_v423_ld => ?_
  refine ldS d i fun v426_ld h_v426_ld => ?_
  refine ldC d i fun v429_ld h_v429_ld => ?_
  refine ldS d i fun v432_ld h_v432_ld => ?_
  refine ldC d i fun v435_ld h_v435_ld => ?_
  refine ldS d i fun v438_ld h_v438_ld => ?_
  refine ldC d i fun v441_ld h_v441_ld => ?_
  rw [wp_pure]
  iintro H
  imodintro
  isplitl [H]; · iexact H
  ipureintro
  exact ⟨(((((h_v409.add h_v414_ld).add h_v420_ld).add h_v426_ld).add h_v432_ld).add h_v438_ld), (((((h_v412.add h_v417_ld).add h_v423_ld).add h_v429_ld).add h_v435_ld).add h_v441_ld)⟩

theorem part22 {v439 : FVec F S16 .f32} (h_v439 : Sm f 16 10 v439) {v442 : FVec F S16 .f32} (h_v442 : Sm c 16 10 v442) :
    Red d i P f c 16 16 ⊢ wp frame (wpE defs₀ 𝒱₀ (tV d i) none) Set.univ
      (k0_part22 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v439 v442)
      fun r => iprop(Red d i P f c 16 16 ∗ ⌜Sm f 16 15 (r.1) ∧ Sm c 16 15 (r.2)⌝) := by
  rw [k0_part22_eq_skeleton]
  unfold k0_part22_skel
  dsimp only
  refine ldS d i fun v444_ld h_v444_ld => ?_
  refine ldC d i fun v447_ld h_v447_ld => ?_
  refine ldS d i fun v450_ld h_v450_ld => ?_
  refine ldC d i fun v453_ld h_v453_ld => ?_
  refine ldS d i fun v456_ld h_v456_ld => ?_
  refine ldC d i fun v459_ld h_v459_ld => ?_
  refine ldS d i fun v462_ld h_v462_ld => ?_
  refine ldC d i fun v465_ld h_v465_ld => ?_
  refine ldS d i fun v468_ld h_v468_ld => ?_
  refine ldC d i fun v471_ld h_v471_ld => ?_
  rw [wp_pure]
  iintro H
  imodintro
  isplitl [H]; · iexact H
  ipureintro
  exact ⟨(((((h_v439.add h_v444_ld).add h_v450_ld).add h_v456_ld).add h_v462_ld).add h_v468_ld), (((((h_v442.add h_v447_ld).add h_v453_ld).add h_v459_ld).add h_v465_ld).add h_v471_ld)⟩

set_option cleanup.letToHave false in
theorem part23 {v469 : FVec F S16 .f32} (h_v469 : Sm f 16 15 v469) {v472 : FVec F S16 .f32} (h_v472 : Sm c 16 15 v472) :
    Red d i P f c 16 16 ⊢ wp frame (wpE defs₀ 𝒱₀ (tV d i) none) Set.univ
      (k0_part23 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v469 v472)
      fun r => iprop(Red d i P f c 32 32 ∗ ⌜Sm c 32 3 (r.1) ∧ Sm f 32 4 (r.2)⌝) := by
  rw [k0_part23_eq_skeleton]
  unfold k0_part23_skel
  dsimp only
  have h_arg10_16 : Sm f 16 15 v469 := h_v469
  refine stS d i (off := ![16]) (inb := inb_S64_S16_16) (n := 16) (w := v469) rfl ?_ (hl := View.loadsAt_vmem h_S16) (hs := View.stores_vmem_bits_univ h_S16 rfl) (hm := .inl rfl) ?_
  · exact h_arg10_16
  have h_arg11_16 : Sm c 16 15 v472 := h_v472
  refine stC d i (off := ![16]) (inb := inb_S64_S16_16) (m := 16) (w := v472) rfl ?_ (hl := View.loadsAt_vmem h_S16) (hs := View.stores_vmem_bits_univ h_S16 rfl) (hm := .inl rfl) ?_
  · exact h_arg11_16
  refine ldS d i fun v476_ld h_v476_ld => ?_
  refine ldC d i fun v478_ld h_v478_ld => ?_
  refine ldS d i fun v480_ld h_v480_ld => ?_
  refine ldC d i fun v483_ld h_v483_ld => ?_
  refine ldS d i fun v486_ld h_v486_ld => ?_
  refine ldC d i fun v489_ld h_v489_ld => ?_
  refine ldS d i fun v492_ld h_v492_ld => ?_
  refine ldC d i fun v495_ld h_v495_ld => ?_
  refine ldS d i fun v498_ld h_v498_ld => ?_
  rw [wp_pure]
  iintro H
  imodintro
  isplitl [H]; · iexact H
  ipureintro
  exact ⟨((((Sm.of h_v478_ld).add h_v483_ld).add h_v489_ld).add h_v495_ld), (((((Sm.of h_v476_ld).add h_v480_ld).add h_v486_ld).add h_v492_ld).add h_v498_ld)⟩

theorem part24 {v496 : FVec F S16 .f32} (h_v496 : Sm c 32 3 v496) {v499 : FVec F S16 .f32} (h_v499 : Sm f 32 4 v499) :
    Red d i P f c 32 32 ⊢ wp frame (wpE defs₀ 𝒱₀ (tV d i) none) Set.univ
      (k0_part24 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v496 v499)
      fun r => iprop(Red d i P f c 32 32 ∗ ⌜Sm c 32 8 (r.1) ∧ Sm f 32 9 (r.2)⌝) := by
  rw [k0_part24_eq_skeleton]
  unfold k0_part24_skel
  dsimp only
  refine ldC d i fun v501_ld h_v501_ld => ?_
  refine ldS d i fun v504_ld h_v504_ld => ?_
  refine ldC d i fun v507_ld h_v507_ld => ?_
  refine ldS d i fun v510_ld h_v510_ld => ?_
  refine ldC d i fun v513_ld h_v513_ld => ?_
  refine ldS d i fun v516_ld h_v516_ld => ?_
  refine ldC d i fun v519_ld h_v519_ld => ?_
  refine ldS d i fun v522_ld h_v522_ld => ?_
  refine ldC d i fun v525_ld h_v525_ld => ?_
  refine ldS d i fun v528_ld h_v528_ld => ?_
  rw [wp_pure]
  iintro H
  imodintro
  isplitl [H]; · iexact H
  ipureintro
  exact ⟨(((((h_v496.add h_v501_ld).add h_v507_ld).add h_v513_ld).add h_v519_ld).add h_v525_ld), (((((h_v499.add h_v504_ld).add h_v510_ld).add h_v516_ld).add h_v522_ld).add h_v528_ld)⟩

theorem part25 {v526 : FVec F S16 .f32} (h_v526 : Sm c 32 8 v526) {v529 : FVec F S16 .f32} (h_v529 : Sm f 32 9 v529) :
    Red d i P f c 32 32 ⊢ wp frame (wpE defs₀ 𝒱₀ (tV d i) none) Set.univ
      (k0_part25 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v526 v529)
      fun r => iprop(Red d i P f c 32 32 ∗ ⌜Sm c 32 13 (r.1) ∧ Sm f 32 14 (r.2)⌝) := by
  rw [k0_part25_eq_skeleton]
  unfold k0_part25_skel
  dsimp only
  refine ldC d i fun v531_ld h_v531_ld => ?_
  refine ldS d i fun v534_ld h_v534_ld => ?_
  refine ldC d i fun v537_ld h_v537_ld => ?_
  refine ldS d i fun v540_ld h_v540_ld => ?_
  refine ldC d i fun v543_ld h_v543_ld => ?_
  refine ldS d i fun v546_ld h_v546_ld => ?_
  refine ldC d i fun v549_ld h_v549_ld => ?_
  refine ldS d i fun v552_ld h_v552_ld => ?_
  refine ldC d i fun v555_ld h_v555_ld => ?_
  refine ldS d i fun v558_ld h_v558_ld => ?_
  rw [wp_pure]
  iintro H
  imodintro
  isplitl [H]; · iexact H
  ipureintro
  exact ⟨(((((h_v526.add h_v531_ld).add h_v537_ld).add h_v543_ld).add h_v549_ld).add h_v555_ld), (((((h_v529.add h_v534_ld).add h_v540_ld).add h_v546_ld).add h_v552_ld).add h_v558_ld)⟩

set_option cleanup.letToHave false in
theorem part26 {v556 : FVec F S16 .f32} (h_v556 : Sm c 32 13 v556) {v559 : FVec F S16 .f32} (h_v559 : Sm f 32 14 v559) :
    Red d i P f c 32 32 ⊢ wp frame (wpE defs₀ 𝒱₀ (tV d i) none) Set.univ
      (k0_part26 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v556 v559)
      fun r => iprop(Red d i P f c 48 48 ∗ ⌜Sm f 48 2 (r.1) ∧ Sm c 48 2 (r.2.1) ∧ Ld f 3 48 (r.2.2)⌝) := by
  rw [k0_part26_eq_skeleton]
  unfold k0_part26_skel
  dsimp only
  refine ldC d i fun v561_ld h_v561_ld => ?_
  refine ldS d i fun v564_ld h_v564_ld => ?_
  refine ldC d i fun v567_ld h_v567_ld => ?_
  have h_arg10_32 : Sm f 32 15 (k0_pay86 v559 v564_ld) := (h_v559.add h_v564_ld)
  refine stS d i (off := ![32]) (inb := inb_S64_S16_32) (n := 32) (w := (k0_pay86 v559 v564_ld)) rfl ?_ (hl := View.loadsAt_vmem h_S16) (hs := View.stores_vmem_bits_univ h_S16 rfl) (hm := .inl rfl) ?_
  · exact h_arg10_32
  have h_arg11_32 : Sm c 32 15 (k0_pay87 v556 v561_ld v567_ld) := ((h_v556.add h_v561_ld).add h_v567_ld)
  refine stC d i (off := ![32]) (inb := inb_S64_S16_32) (m := 32) (w := (k0_pay87 v556 v561_ld v567_ld)) rfl ?_ (hl := View.loadsAt_vmem h_S16) (hs := View.stores_vmem_bits_univ h_S16 rfl) (hm := .inl rfl) ?_
  · exact h_arg11_32
  refine ldS d i fun v572_ld h_v572_ld => ?_
  refine ldC d i fun v574_ld h_v574_ld => ?_
  refine ldS d i fun v576_ld h_v576_ld => ?_
  refine ldC d i fun v579_ld h_v579_ld => ?_
  refine ldS d i fun v582_ld h_v582_ld => ?_
  refine ldC d i fun v585_ld h_v585_ld => ?_
  refine ldS d i fun v588_ld h_v588_ld => ?_
  rw [wp_pure]
  iintro H
  imodintro
  isplitl [H]; · iexact H
  ipureintro
  exact ⟨(((Sm.of h_v572_ld).add h_v576_ld).add h_v582_ld), (((Sm.of h_v574_ld).add h_v579_ld).add h_v585_ld), h_v588_ld⟩

theorem part27 {v583 : FVec F S16 .f32} (h_v583 : Sm f 48 2 v583) {v586 : FVec F S16 .f32} (h_v586 : Sm c 48 2 v586) {v588_ld : Vec F S1x16 .f32} (h_v588_ld : Ld f 3 48 v588_ld) :
    Red d i P f c 48 48 ⊢ wp frame (wpE defs₀ 𝒱₀ (tV d i) none) Set.univ
      (k0_part27 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v583 v586 v588_ld)
      fun r => iprop(Red d i P f c 48 48 ∗ ⌜Sm f 48 7 (r.1) ∧ Sm c 48 7 (r.2.1) ∧ Ld f 8 48 (r.2.2)⌝) := by
  rw [k0_part27_eq_skeleton]
  unfold k0_part27_skel
  dsimp only
  refine ldC d i fun v591_ld h_v591_ld => ?_
  refine ldS d i fun v594_ld h_v594_ld => ?_
  refine ldC d i fun v597_ld h_v597_ld => ?_
  refine ldS d i fun v600_ld h_v600_ld => ?_
  refine ldC d i fun v603_ld h_v603_ld => ?_
  refine ldS d i fun v606_ld h_v606_ld => ?_
  refine ldC d i fun v609_ld h_v609_ld => ?_
  refine ldS d i fun v612_ld h_v612_ld => ?_
  refine ldC d i fun v615_ld h_v615_ld => ?_
  refine ldS d i fun v618_ld h_v618_ld => ?_
  rw [wp_pure]
  iintro H
  imodintro
  isplitl [H]; · iexact H
  ipureintro
  exact ⟨(((((h_v583.add h_v588_ld).add h_v594_ld).add h_v600_ld).add h_v606_ld).add h_v612_ld), (((((h_v586.add h_v591_ld).add h_v597_ld).add h_v603_ld).add h_v609_ld).add h_v615_ld), h_v618_ld⟩

theorem part28 {v613 : FVec F S16 .f32} (h_v613 : Sm f 48 7 v613) {v616 : FVec F S16 .f32} (h_v616 : Sm c 48 7 v616) {v618_ld : Vec F S1x16 .f32} (h_v618_ld : Ld f 8 48 v618_ld) :
    Red d i P f c 48 48 ⊢ wp frame (wpE defs₀ 𝒱₀ (tV d i) none) Set.univ
      (k0_part28 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v613 v616 v618_ld)
      fun r => iprop(Red d i P f c 48 48 ∗ ⌜Sm f 48 12 (r.1) ∧ Sm c 48 12 (r.2.1) ∧ Ld f 13 48 (r.2.2)⌝) := by
  rw [k0_part28_eq_skeleton]
  unfold k0_part28_skel
  dsimp only
  refine ldC d i fun v621_ld h_v621_ld => ?_
  refine ldS d i fun v624_ld h_v624_ld => ?_
  refine ldC d i fun v627_ld h_v627_ld => ?_
  refine ldS d i fun v630_ld h_v630_ld => ?_
  refine ldC d i fun v633_ld h_v633_ld => ?_
  refine ldS d i fun v636_ld h_v636_ld => ?_
  refine ldC d i fun v639_ld h_v639_ld => ?_
  refine ldS d i fun v642_ld h_v642_ld => ?_
  refine ldC d i fun v645_ld h_v645_ld => ?_
  refine ldS d i fun v648_ld h_v648_ld => ?_
  rw [wp_pure]
  iintro H
  imodintro
  isplitl [H]; · iexact H
  ipureintro
  exact ⟨(((((h_v613.add h_v618_ld).add h_v624_ld).add h_v630_ld).add h_v636_ld).add h_v642_ld), (((((h_v616.add h_v621_ld).add h_v627_ld).add h_v633_ld).add h_v639_ld).add h_v645_ld), h_v648_ld⟩

end Parts

end Cert.Proof.Reduce

end
-- ==== Proof.Arms.lean ====
/-
  The middle of a tile's run: the arm it takes, and the first totals read back.
-/
module

public import proofs.«01_k».proof.Proof.Words
public import proofs.«01_k».proof.Proof.Fill
public import proofs.«01_k».proof.Proof.Reduce

@[expose] public section

noncomputable section

namespace Cert.Proof.Arms

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

open Idealize.ShloMosaic.Transfers Cert.Proof.Copies Cert.Proof.Outer Cert.Proof.Branch Cert.Proof.Words Cert.Proof.Fill Cert.Proof.Reduce

/-! ## Joining runs -/

section Bind

variable {α β : Type} {A C R : sProp (MT nD τ sig (HIx 1) (Elt F) ℕ UU ℕ)} {B : α → sProp (MT nD τ sig (HIx 1) (Elt F) ℕ UU ℕ)} {φ : α → Prop}
  {Q : β → sProp (MT nD τ sig (HIx 1) (Elt F) ℕ UU ℕ)} {p : Prog (TpuEff nD τ sig (Elt F) Λ₀ (tV d i).2) α}
  {k : α → Prog (TpuEff nD τ sig (Elt F) Λ₀ (tV d i).2) β}

/-- One run, then another from what it leaves. -/
theorem bindR (hp : A ⊢ wp frame (wpE defs₀ 𝒱₀ (tV d i) none) Set.univ p B) (hk : ∀ r, B r ⊢ wp frame (wpE defs₀ 𝒱₀ (tV d i) none) Set.univ (k r) Q) :
    A ⊢ wp frame (wpE defs₀ 𝒱₀ (tV d i) none) Set.univ (p >>= k) Q := by
  rw [wp_bind]
  exact hp.trans ((wp_wand frame (wpE defs₀ 𝒱₀ (tV d i) none) Set.univ).trans (by
    iintro H
    iapply H
    iintro %r HB
    iapply (hk r) $$ HB))

/-- The same where the first run also says something of its result, -/
theorem bindE (hp : A ⊢ wp frame (wpE defs₀ 𝒱₀ (tV d i) none) Set.univ p fun r => iprop(C ∗ ⌜φ r⌝)) (hk : ∀ r, φ r → C ⊢ wp frame (wpE defs₀ 𝒱₀ (tV d i) none) Set.univ (k r) Q) :
    A ⊢ wp frame (wpE defs₀ 𝒱₀ (tV d i) none) Set.univ (p >>= k) Q := by
  refine bindR d i hp fun r => ?_
  iintro ⟨HC, %h⟩
  iapply (hk r h) $$ HC

/-- and where something is kept aside. -/
theorem frameR (hp : A ⊢ wp frame (wpE defs₀ 𝒱₀ (tV d i) none) Set.univ p B) : iprop(A ∗ R) ⊢ wp frame (wpE defs₀ 𝒱₀ (tV d i) none) Set.univ p fun r => iprop(B r ∗ R) := by
  iintro ⟨HA, HR⟩
  ihave H := hp $$ HA
  iapply (wp_wand frame (wpE defs₀ 𝒱₀ (tV d i) none) Set.univ) $$ H
  iintro %r HB
  isplitl [HB] <;> iassumption

theorem frameE (hp : A ⊢ wp frame (wpE defs₀ 𝒱₀ (tV d i) none) Set.univ p fun r => iprop(C ∗ ⌜φ r⌝)) : iprop(A ∗ R) ⊢ wp frame (wpE defs₀ 𝒱₀ (tV d i) none) Set.univ p fun r => iprop((C ∗ R) ∗ ⌜φ r⌝) := by
  iintro ⟨HA, HR⟩
  ihave H := hp $$ HA
  iapply (wp_wand frame (wpE defs₀ 𝒱₀ (tV d i) none) Set.univ) $$ H
  iintro %r ⟨HB, %h⟩
  isplitl [HB HR]
  · isplitl [HB] <;> iassumption
  ipureintro
  exact h

end Bind

/-! ## A tile's inputs -/

/-- The words of the tile's own rows, -/
def Xi (fx : Vec F S1280000 .f32) (n : ℕ) : F .f32 := elemX fx (40960 * wid i + n)
/-- its nodes' graphs, -/
def Bi (fb : Vec F S10000 .i32) (n : ℕ) : ℕ := elemB fb (320 * wid i + n)
/-- and how many groups of sixteen nodes it has. -/
def Ni : ℕ := if wid i < 31 then 20 else 5

section Arms

variable (v1 : BitVec 32) (v2 : IVec S16 32) (hv2 : ∀ x, (v2 x).toNat = (x 0).val) (v3 : FVec F S16 .f32) (v4 : FVec F S16 .f32)
  (hv3 : ∀ x, v3 x = zero) (hv4 : ∀ x, v4 x = one)
variable {q1 q2 q3 : PosShare TreeShare} {fx : Buf (Elt F) (xM.view.loc (tV d i))} {fb : Buf (Elt F) (bM.view.loc (tV d i))}
  (hB : ∀ n, elemB fb n < 64) {O : CellTallies nD τ sig (HIx 1)} {W : Waits sig (HIx 1)}

include hv2 hv3 hv4 hB in
theorem part1 (h : k0_cond1 i = 1#1) :
    Start d i q1 q2 q3 fx fb cc0_scratch6.sem cc0_scratch7.sem cc0_scoped0.sem O W (Bi i fb) (Xi i fx) ⊢ wp frame (wpE defs₀ 𝒱₀ (tV d i) none) Set.univ
      (k0_part1 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v1 v2 v3 v4 (k0_pay30 v2 k0_pay29) (k0_pay31 v2) (k0_pay32 v2) (k0_pay33 v2) (k0_pay34 v2) (k0_pay35 v2) (k0_pay36 v2) (k0_pay37 v2) h)
      fun r => iprop(Res d i (Full d i (Xi i fx) cc0_scratch6.sem cc0_scratch7.sem cc0_scoped0.sem O W 40960) (Xi i fx) (Bi i fb) 320 10
        ∗ ⌜r.1 = 0#32 ∧ r.2.1 = 10#32⌝) := by
  rw [k0_part1_eq_skeleton]
  unfold k0_part1_skel
  dsimp only
  refine openR d i (n := 20480) (nb := 320) rfl rfl (by decide) (by decide) ?_ ?_ ?_ ?_
  · intro m _
    rw [off1_val]; rfl
  · intro m _
    rw [off2_val]
    unfold Xi
    congr 1
    omega
  · intro m _
    rw [off3_val]; rfl
  refine bindR d i (loop_t1 d i v1 v2 hv2 v3 v4 hv3 hv4 (loads_half d i _ _ _ _ _ _ _ _ _) (by omega) (by omega) (fun r _ => hB _) h _) fun _ => ?_
  refine landedR d i rfl ?_
  rw [wp_pure]
  iintro H
  imodintro
  isplitl [H]; · iexact H
  ipureintro
  exact ⟨rfl, rfl⟩

include hv2 hv3 hv4 hB in
/-- The arm of the tiles that have twenty groups. -/
theorem arm1 (h : k0_cond1 i = 1#1) {α : Type} {k : BitVec 32 → Prog (TpuEff nD τ sig (Elt F) Λ₀ (tV d i).2) α} {Q : α → sProp 𝕄} {R : sProp 𝕄}
    (hk : ∀ r, iprop(Res d i (Full d i (Xi i fx) cc0_scratch6.sem cc0_scratch7.sem cc0_scoped0.sem O W 40960) (Xi i fx) (Bi i fb) 320 20 ∗ R) ⊢ wp frame (wpE defs₀ 𝒱₀ (tV d i) none) Set.univ (k r) Q) :
    iprop(Start d i q1 q2 q3 fx fb cc0_scratch6.sem cc0_scratch7.sem cc0_scoped0.sem O W (Bi i fb) (Xi i fx) ∗ R) ⊢ wp frame (wpE defs₀ 𝒱₀ (tV d i) none) Set.univ
      (k0_part1 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v1 v2 v3 v4 (k0_pay30 v2 k0_pay29) (k0_pay31 v2) (k0_pay32 v2) (k0_pay33 v2) (k0_pay34 v2) (k0_pay35 v2) (k0_pay36 v2) (k0_pay37 v2) h >>= fun x =>
        Scf.Loop.for k0_t3_loop (k0_t3_ok i h) x.1 (k0_t3_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v1 v2 v3 v4 k0_pay29 h x.2.1) >>= k) Q := by
  refine bindE d i (frameE d i (part1 d i v1 v2 hv2 v3 v4 hv3 hv4 hB h)) fun x hx => ?_
  obtain ⟨x1, x2, x3⟩ := x
  obtain ⟨h1, h2⟩ := hx
  change x1 = 0#32 at h1
  change x2 = 10#32 at h2
  subst h1 h2
  exact bindR d i (frameR d i (loop_t3 d i v1 v2 hv2 v3 v4 hv3 hv4 (loads_full d i _ _ _ _ _ _ _) (by omega) (by omega) (fun r _ => hB _) h _)) hk

include hv2 hv3 hv4 hB in
theorem part2 (h : k0_cond2 i = 1#1) :
    Start d i q1 q2 q3 fx fb cc0_scratch8.sem cc0_scratch9.sem cc0_scoped1.sem O W (Bi i fb) (Xi i fx) ⊢ wp frame (wpE defs₀ 𝒱₀ (tV d i) none) Set.univ
      (k0_part2 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v2 v3 v4 (k0_pay30 v2 k0_pay29) (k0_pay31 v2) (k0_pay32 v2) (k0_pay33 v2) (k0_pay34 v2) (k0_pay35 v2) (k0_pay36 v2) (k0_pay37 v2) h)
      fun _ => Res d i (Half d i (Xi i fx) 5120 S5120.size inb_S40960_S5120_5120 cc0_scratch8.sem cc0_scratch9.sem cc0_scoped1.sem O W) (Xi i fx) (Bi i fb) 80 2 := by
  have hw := (cond2_iff i).mp h
  rw [k0_part2_eq_skeleton]
  unfold k0_part2_skel
  dsimp only
  refine openR d i (n := 5120) (nb := 80) rfl rfl (by decide) (by decide) ?_ ?_ ?_ ?_
  · intro m _
    unfold Xi
    rw [hw]; rfl
  · intro m _
    unfold Xi
    rw [hw]
    show elemX fx (1274880 + m) = _
    congr 1
    omega
  · intro m _
    unfold Bi
    rw [hw]; rfl
  refine bindR d i (loop_t5 d i v2 hv2 v3 v4 hv3 hv4 (loads_half d i _ _ _ _ _ _ _ _ _) (by omega) (by omega) (fun r _ => hB _) h _) fun _ => ?_
  rw [wp_pure]
  iintro H
  imodintro
  iexact H

include hv2 hv3 hv4 hB in
/-- The arm of the last tile, which has five. -/
theorem arm2 (h : k0_cond2 i = 1#1) {α : Type} {k : BitVec 32 → Prog (TpuEff nD τ sig (Elt F) Λ₀ (tV d i).2) α} {Q : α → sProp 𝕄} {R : sProp 𝕄}
    {sp : Space} {src : Memref sig .scVector sp S5120 .f32} {w1 w2}
    (hk : ∀ r, iprop(Res d i (Full d i (Xi i fx) cc0_scratch8.sem cc0_scratch9.sem cc0_scoped1.sem O W 10240) (Xi i fx) (Bi i fb) 80 5 ∗ R) ⊢ wp frame (wpE defs₀ 𝒱₀ (tV d i) none) Set.univ (k r) Q) :
    iprop(Start d i q1 q2 q3 fx fb cc0_scratch8.sem cc0_scratch9.sem cc0_scoped1.sem O W (Bi i fb) (Xi i fx) ∗ R) ⊢ wp frame (wpE defs₀ 𝒱₀ (tV d i) none) Set.univ
      (k0_part2 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v2 v3 v4 (k0_pay30 v2 k0_pay29) (k0_pay31 v2) (k0_pay32 v2) (k0_pay33 v2) (k0_pay34 v2) (k0_pay35 v2) (k0_pay36 v2) (k0_pay37 v2) h >>= fun _ =>
        Prog.lift (.waitDma2 cc0_scratch9.sem src (xvM.slice (Rect.unit (s := S40960) ![5120] S5120.size inb_S40960_S5120_5120) (fun _ => rfl)) w1 w2) >>= fun _ =>
        Scf.Loop.for k0_t7_loop (k0_t7_ok i h) 0#32 (k0_t7_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v1 v2 v3 v4 k0_pay29 h) >>= k) Q := by
  refine bindR d i (frameR d i (part2 d i v2 hv2 v3 v4 hv3 hv4 hB h)) fun _ => ?_
  refine bindR d i (p := Prog.lift (.waitDma2 cc0_scratch9.sem src (xvM.slice (Rect.unit (s := S40960) ![5120] S5120.size inb_S40960_S5120_5120) (fun _ => rfl)) w1 w2))
    (frameR d i (B := fun _ => Res d i (Full d i (Xi i fx) cc0_scratch8.sem cc0_scratch9.sem cc0_scoped1.sem O W 10240) (Xi i fx) (Bi i fb) 80 2) ?_) fun _ => ?_
  rotate_left
  · exact bindR d i (frameR d i (loop_t7 d i v1 v2 hv2 v3 v4 hv3 hv4 (loads_full d i _ _ _ _ _ _ _) (by omega) (by omega) (fun r _ => hB _) h _)) hk
  refine landedR d i (n := 5120) (sz := S5120.size) (inb2 := inb_S40960_S5120_5120) (k := fun x => pure x) rfl ?_
  rw [wp_pure]
  iintro H
  imodintro
  iexact H

/-! ## The sixteenth part -/

/-- The semaphores of the two arms. -/
def Sems : sProp 𝕄 :=
  iprop(semVal (tV d i, .dma cc0_scratch6.sem) 0 ∗ semVal (tV d i, .dma cc0_scratch7.sem) 0 ∗ semVal (tV d i, .dma cc0_scoped0.sem) 0
    ∗ semVal (tV d i, .dma cc0_scratch8.sem) 0 ∗ semVal (tV d i, .dma cc0_scratch9.sem) 0 ∗ semVal (tV d i, .dma cc0_scoped1.sem) 0)

/-- What lies idle but for the arms. -/
def Idle (O : CellTallies nD τ sig (HIx 1)) (W : Waits sig (HIx 1)) (R : sProp 𝕄) : sProp 𝕄 :=
  iprop((∃ f, held d i xvM f) ∗ (∃ g, held d i bvM g) ∗ Ow d i O W ∗ Sems d i ∗ R)

/-- What a tile starts from, its tables and `R` apart. -/
def Pre (q1 q2 q3 : PosShare TreeShare) (fx : Buf (Elt F) (xM.view.loc (tV d i))) (fb : Buf (Elt F) (bM.view.loc (tV d i)))
    (O : CellTallies nD τ sig (HIx 1)) (W : Waits sig (HIx 1)) (R : sProp 𝕄) : sProp 𝕄 :=
  iprop((xM.view.loc (tV d i) ↦[Finset.univ]{q1} fx) ∗ (xM.view.loc (tV d i) ↦[Finset.univ]{q2} fx) ∗ (bM.view.loc (tV d i) ↦[Finset.univ]{q3} fb)
    ∗ (∃ g, held d i svM g) ∗ (∃ g, held d i cvM g) ∗ Idle d i O W R)

/-- The tile's tables when its groups are done. -/
def tabS (fx : Vec F S1280000 .f32) (fb : Vec F S10000 .i32) (l g : ℕ) : F .f32 := table (Bi i fb) (row (Xi i fx)) l g (Ni i)
def tabC (fb : Vec F S10000 .i32) (l g : ℕ) : F .f32 := table (Bi i fb) (fun _ _ => one) l g (Ni i)

theorem Z_tab (v : ℕ → ℕ → F .f32) {B : ℕ → ℕ} {f : Vec F S16x64 .f32} (h : Z 64 f) : Tab B v 0 f := by
  intro j
  have h0 : (j 0).val < 16 := (j 0).isLt
  have h1 : (j 1).val < 64 := (j 1).isLt
  exact h j (by omega)

theorem out_zero (f : ℕ → ℕ → F .f32) (g : Vec F S64 .f32) : Out f 0 g := fun j hj => absurd hj (Nat.not_lt_zero _)

include hv2 hv3 hv4 hB in
theorem part16 (R : sProp 𝕄) :
    Part d i (Pre d i q1 q2 q3 fx fb O W R) 64 64 ⊢ wp frame (wpE defs₀ 𝒱₀ (tV d i) none) Set.univ
      (k0_part16 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v1 v2 v3 v4 k0_pay29)
      fun r => iprop(Red d i (Idle d i O W R) (tabS i fx fb) (tabC i fb) 0 0
        ∗ ⌜Sm (tabS i fx fb) 0 1 r.1 ∧ Sm (tabC i fb) 0 1 r.2.1 ∧ Ld (tabS i fx fb) 2 0 r.2.2⌝) := by
  have hend : ∀ {Q : _ → sProp 𝕄}, Q = (fun r => iprop(Red d i (Idle d i O W R) (tabS i fx fb) (tabC i fb) 0 0
        ∗ ⌜Sm (tabS i fx fb) 0 1 r.1 ∧ Sm (tabC i fb) 0 1 r.2.1 ∧ Ld (tabS i fx fb) 2 0 r.2.2⌝)) →
      Red d i (Idle d i O W R) (tabS i fx fb) (tabC i fb) 0 0 ⊢ wp frame (wpE defs₀ 𝒱₀ (tV d i) none) Set.univ
      (Prog.lift (.load spM (Rect.unit (s := S16x64) ![0, 0] S1x16.size inb_S16x64_S1x16_0_0).toLoadRect (View.loadsAt_vmem h_S1x16)) >>= fun (v284_ld : Vec F S1x16 .f32) =>
       Prog.lift (.load cpM (Rect.unit (s := S16x64) ![0, 0] S1x16.size inb_S16x64_S1x16_0_0).toLoadRect (View.loadsAt_vmem h_S1x16)) >>= fun (v286_ld : Vec F S1x16 .f32) =>
       Prog.lift (.load spM (Rect.unit (s := S16x64) ![1, 0] S1x16.size inb_S16x64_S1x16_1_0).toLoadRect (View.loadsAt_vmem h_S1x16)) >>= fun (v288_ld : Vec F S1x16 .f32) =>
       Prog.lift (.load cpM (Rect.unit (s := S16x64) ![1, 0] S1x16.size inb_S16x64_S1x16_1_0).toLoadRect (View.loadsAt_vmem h_S1x16)) >>= fun (v291_ld : Vec F S1x16 .f32) =>
       Prog.lift (.load spM (Rect.unit (s := S16x64) ![2, 0] S1x16.size inb_S16x64_S1x16_2_0).toLoadRect (View.loadsAt_vmem h_S1x16)) >>= fun (v294_ld : Vec F S1x16 .f32) =>
       (pure ⟨k0_pay64 v284_ld v288_ld, k0_pay65 v286_ld v291_ld, v294_ld⟩ : Prog (TpuEff nD τ sig (Elt F) Λ₀ (tV d i).2) (Σ' (_ : FVec F S16 .f32) (_ : FVec F S16 .f32), Vec F S1x16 .f32))) Q := by
    rintro Q rfl
    refine ldS d i fun v284_ld h_v284_ld => ?_
    refine ldC d i fun v286_ld h_v286_ld => ?_
    refine ldS d i fun v288_ld h_v288_ld => ?_
    refine ldC d i fun v291_ld h_v291_ld => ?_
    refine ldS d i fun v294_ld h_v294_ld => ?_
    rw [wp_pure]
    iintro H
    imodintro
    isplitl [H]; · iexact H
    ipureintro
    exact ⟨(Sm.of h_v284_ld).add h_v288_ld, (Sm.of h_v286_ld).add h_v291_ld, h_v294_ld⟩
  rw [k0_part16_eq_skeleton]
  unfold k0_part16_skel
  dsimp only
  by_cases h1 : k0_cond1 i = 1#1
  · have hw := (cond1_iff i).mp h1
    have h2 : ¬ k0_cond2 i = 1#1 := fun h => by have := (cond2_iff i).mp h; omega
    rw [dif_pos h1, dif_neg h2]
    have hn : Ni i = 20 := if_pos hw
    refine BIBase.Entails.trans (Q := iprop(Start d i q1 q2 q3 fx fb cc0_scratch6.sem cc0_scratch7.sem cc0_scoped0.sem O W (Bi i fb) (Xi i fx)
      ∗ (∃ g, held d i svM g) ∗ (∃ g, held d i cvM g)
      ∗ semVal (tV d i, .dma cc0_scratch8.sem) 0 ∗ semVal (tV d i, .dma cc0_scratch9.sem) 0 ∗ semVal (tV d i, .dma cc0_scoped1.sem) 0 ∗ R)) ?_
      (arm1 d i v1 v2 hv2 v3 v4 hv3 hv4 hB h1 fun _ => BIBase.Entails.trans ?_ (hend rfl))
    · unfold Fill.Part Pre Idle Sems Start
      iintro ⟨⟨⟨Hx1, Hx2, Hb, Hsv, Hcv, Hxv, Hbv, Ho, ⟨V1, V2, V3, V4, V5, V6⟩, HR⟩, Hc⟩, Hs⟩
      ihave Hc := (cont_mono d i fun g h => Z_tab (B := Bi i fb) (fun _ _ => one) h) $$ Hc
      ihave Hs := (cont_mono d i fun g h => Z_tab (B := Bi i fb) (row (Xi i fx)) h) $$ Hs
      iframe
    · unfold Red Idle Sems Res Full tabS tabC
      rw [hn]
      iintro ⟨⟨⟨%f, -, Hxv, Ho, V1, V2, V3⟩, Hbv, Hs, Hc⟩, ⟨%g, Hsv⟩, ⟨%g', Hcv⟩, V4, V5, V6, HR⟩
      isplitl [Hxv Ho V1 V2 V3 Hbv V4 V5 V6 HR]
      · isplitl [Hxv]
        · iexists f; iexact Hxv
        isplitl [Hbv]
        · unfold cont
          icases Hbv with ⟨%g, -, Hbv⟩
          iexists g; iexact Hbv
        iframe
      isplitl [Hs]; · iexact Hs
      isplitl [Hc]; · iexact Hc
      unfold cont
      isplitl [Hsv]
      · iexists g
        isplitr
        · ipureintro; exact out_zero _ _
        iexact Hsv
      iexists g'
      isplitr
      · ipureintro; exact out_zero _ _
      iexact Hcv
  · have hw : wid i = 31 := by
      have := wid_lt i
      have : ¬ wid i < 31 := fun h => h1 ((cond1_iff i).mpr h)
      omega
    have h2 : k0_cond2 i = 1#1 := (cond2_iff i).mpr hw
    rw [dif_neg h1, dif_pos h2]
    have hn : Ni i = 5 := if_neg (by omega)
    refine BIBase.Entails.trans (Q := iprop(Start d i q1 q2 q3 fx fb cc0_scratch8.sem cc0_scratch9.sem cc0_scoped1.sem O W (Bi i fb) (Xi i fx)
      ∗ (∃ g, held d i svM g) ∗ (∃ g, held d i cvM g)
      ∗ semVal (tV d i, .dma cc0_scratch6.sem) 0 ∗ semVal (tV d i, .dma cc0_scratch7.sem) 0 ∗ semVal (tV d i, .dma cc0_scoped0.sem) 0 ∗ R)) ?_
      (arm2 d i v1 v2 hv2 v3 v4 hv3 hv4 hB h2 fun _ => BIBase.Entails.trans ?_ (hend rfl))
    · unfold Fill.Part Pre Idle Sems Start
      iintro ⟨⟨⟨Hx1, Hx2, Hb, Hsv, Hcv, Hxv, Hbv, Ho, ⟨V1, V2, V3, V4, V5, V6⟩, HR⟩, Hc⟩, Hs⟩
      ihave Hc := (cont_mono d i fun g h => Z_tab (B := Bi i fb) (fun _ _ => one) h) $$ Hc
      ihave Hs := (cont_mono d i fun g h => Z_tab (B := Bi i fb) (row (Xi i fx)) h) $$ Hs
      iframe
    · unfold Red Idle Sems Res Full tabS tabC
      rw [hn]
      iintro ⟨⟨⟨%f, -, Hxv, Ho, V1, V2, V3⟩, Hbv, Hs, Hc⟩, ⟨%g, Hsv⟩, ⟨%g', Hcv⟩, V4, V5, V6, HR⟩
      isplitl [Hxv Ho V1 V2 V3 Hbv V4 V5 V6 HR]
      · isplitl [Hxv]
        · iexists f; iexact Hxv
        isplitl [Hbv]
        · unfold cont
          icases Hbv with ⟨%g, -, Hbv⟩
          iexists g; iexact Hbv
        iframe
      isplitl [Hs]; · iexact Hs
      isplitl [Hc]; · iexact Hc
      unfold cont
      isplitl [Hsv]
      · iexists g
        isplitr
        · ipureintro; exact out_zero _ _
        iexact Hsv
      iexists g'
      isplitr
      · ipureintro; exact out_zero _ _
      iexact Hcv

end Arms

end Cert.Proof.Arms

end
-- ==== Proof.Tile.lean ====
/-
  A tile's whole run: its row of the sums and its row of the counts.
-/
module

public import proofs.«01_k».proof.Proof.Arms

@[expose] public section

noncomputable section

namespace Cert.Proof.Tile

open Cert.KernelIdeal Cert.KernelIdeal.Gen Cert.Proof.Landing Cert.Proof.Model Cert.Proof.Gather Cert.Proof.Group

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

open Idealize.ShloMosaic.Transfers Cert.Proof.Copies Cert.Proof.Outer Cert.Proof.Branch Cert.Proof.Words Cert.Proof.Fill Cert.Proof.Reduce Cert.Proof.Arms

/-! ## The rows written -/

/-- What the tiles leave in the table of sums, a row each, -/
def outS (fx : Vec F S1280000 .f32) (fb : Vec F S10000 .i32) : Vec F S32x64 .f32 := fun j =>
  sumsOf (fun n => elemX fx (40960 * (j 0).val + n)) (fun n => elemB fb (320 * (j 0).val + n)) (if (j 0).val < 31 then 20 else 5) (j 1).val
/-- and in the table of counts. -/
def outC (fb : Vec F S10000 .i32) : Vec F S32x64 .f32 := fun j =>
  cntsOf (fun n => elemB fb (320 * (j 0).val + n)) (if (j 0).val < 31 then 20 else 5) (j 1).val

/-- Row `w` of the thirty-two. -/
def rowS (w : ℕ) : Finset S32x64.Idx := Finset.univ.filter fun j => (j 0).val = w

abbrev rowO : Memref sig .scVector .hbm S64 .f32 :=
  (oM.slice (Rect.unit (s := S32x64) (k0_off9 i) S1x64.size (k0_off9_inb i)) (fun _ => rfl)).squeeze S64 squeezes_S1x64_S64
abbrev rowN : Memref sig .scVector .hbm S64 .f32 :=
  (nM.slice (Rect.unit (s := S32x64) (k0_off9 i) S1x64.size (k0_off9_inb i)) (fun _ => rfl)).squeeze S64 squeezes_S1x64_S64

theorem rowS_rect : (Rect.unit (s := S32x64) (k0_off9 i) S1x64.size (k0_off9_inb i)).set = rowS (wid i) := by
  obtain ⟨h0, h1⟩ := off9_val i
  ext j
  have hj1 : (j 1).val < 64 := (j 1).isLt
  unfold rowS
  rw [Rect.mem_set_unit, Finset.mem_filter]
  constructor
  · intro h
    have := h 0
    rw [h0] at this
    have hlt : (j 0).val < wid i + 1 := this.2
    exact ⟨Finset.mem_univ _, by omega⟩
  · rintro ⟨-, h⟩ a
    match a with
    | 0 => rw [h0]; exact ⟨by omega, by show (j 0).val < wid i + 1; omega⟩
    | 1 => rw [h1]; exact ⟨Nat.zero_le _, by show (j 1).val < 0 + 64; omega⟩

theorem set_rowO : (rowO i).view.set = rowS (wid i) :=
  ((View.set_reshape _ _).trans (View.set_slice_whole _ _)).trans (rowS_rect i)
theorem set_rowN : (rowN i).view.set = rowS (wid i) :=
  ((View.set_reshape _ _).trans (View.set_slice_whole _ _)).trans (rowS_rect i)

/-- Where a row's element lies. -/
theorem emb_row (h : S64.numel = S1x64.numel) (x : S64.Idx) :
    let y := (Rect.unit (s := S32x64) (k0_off9 i) S1x64.size (k0_off9_inb i)).emb (Shape.reshapeEquiv (s := S1x64) h x)
    (y 0).val = wid i ∧ (y 1).val = (x 0).val := by
  obtain ⟨h0, h1⟩ := off9_val i
  have he : Shape.reshapeEquiv (s := S1x64) h x = fun | 0 => ⟨0, by decide⟩ | 1 => x 0 := by
    refine Shape.reshapeEquiv_eq_of_rowMajor h ?_
    refine (Shape.rowMajor_val_two (d := ![1, 64]) _).trans (Eq.trans ?_ (Shape.rowMajor_val_one (d := ![64]) _).symm)
    show 0 * 64 + (x 0).val = (x 0).val
    omega
  rw [he]
  exact ⟨by show k0_off9 i 0 + 1 * 0 = wid i; omega, by show k0_off9 i 1 + 1 * (x 0).val = (x 0).val; omega⟩

theorem written_rowO (fo : Buf (Elt F) ((rowO i).view.loc (tV d i))) {f : ℕ → ℕ → F .f32} {g : Vec F S64 .f32} (hg : Out f 64 g) (OF : Vec F S32x64 .f32)
    (hOF : ∀ j : S32x64.Idx, (j 0).val = wid i → OF j = col (fun l => f l (j 1).val) 15) :
    ∀ j ∈ (rowO i).view.set, (rowO i).view.write (Elt F) fo g Finset.univ j = OF j := by
  intro j hj
  obtain ⟨x, -, rfl⟩ := Finset.mem_map.mp hj
  refine (View.write_emb_of_mem (v := (rowO i).view) fo g (Finset.mem_univ x)).trans ?_
  have hx := emb_row i squeezes_S1x64_S64.numel_eq x
  refine Eq.trans ?_ (hOF _ hx.1).symm
  show g x = _
  rw [hg x (x 0).isLt]
  congr 1
  funext l
  exact congrArg (f l) hx.2.symm

theorem written_rowN (fo : Buf (Elt F) ((rowN i).view.loc (tV d i))) {f : ℕ → ℕ → F .f32} {g : Vec F S64 .f32} (hg : Out f 64 g) (OF : Vec F S32x64 .f32)
    (hOF : ∀ j : S32x64.Idx, (j 0).val = wid i → OF j = col (fun l => f l (j 1).val) 15) :
    ∀ j ∈ (rowN i).view.set, (rowN i).view.write (Elt F) fo g Finset.univ j = OF j := by
  intro j hj
  obtain ⟨x, -, rfl⟩ := Finset.mem_map.mp hj
  refine (View.write_emb_of_mem (v := (rowN i).view) fo g (Finset.mem_univ x)).trans ?_
  have hx := emb_row i squeezes_S1x64_S64.numel_eq x
  refine Eq.trans ?_ (hOF _ hx.1).symm
  show g x = _
  rw [hg x (x 0).isLt]
  congr 1
  funext l
  exact congrArg (f l) hx.2.symm

/-! ## The copies out -/

/-- A copy out of a buffer held whole, which comes back with the written one. -/
theorem copyK {O : CellTallies nD τ sig (HIx 1)} {W : Waits sig (HIx 1)} {sp' : Space} {s : Shape} {e : EltTy} {α : Type} {Q : α → sProp 𝕄}
    {src : Memref sig .scVector .vmem s e} {dst : Memref sig .scVector sp' s e} {sm : DmaSem sig} (hsrc : src.view.set = Finset.univ)
    {k : PUnit → Prog (TpuEff nD τ sig (Elt F) Λ₀ (tV d i).2) α} {fs : Buf (Elt F) (src.view.loc (tV d i))}
    {fd : Buf (Elt F) (dst.view.loc (tV d i))} (hs : 0 < s.numel)
    {h1 : src.view.WordExact} {h2 : dst.view.WordExact} {h3 : DmaTarget.Typed (nD := nD) (p := (tV d i).2) .vmem (.dma sm) (.here dst)} :
    iprop(held d i src fs ∗ (dst.view.loc (tV d i) ↦[dst.view.set]{fullShare} fd) ∗ semVal (tV d i, .dma sm) 0) ⊢
      iprop((Flight EC (tV d i) (.dma sm) none dst.view.dmaCredit
          iprop((dst.view.loc (tV d i) ↦[dst.view.set]{fullShare} dst.view.write (Elt F) fd (src.view.read (Elt F) fs) Finset.univ) ∗ held d i src fs)
          -∗ wp frame (wpE defs₀ 𝒱₀ (tV d i) none) Set.univ (k ⟨⟩) Q)
        -∗ wp frame (wpE defs₀ 𝒱₀ (tV d i) none) Set.univ (Prog.lift (.enqueueDma src (.here dst) (.dma sm) h1 h2 h3) >>= k) Q) := by
  show _ ⊢ iprop(_ -∗ wp _ _ _ (.op (.enqueueDma src (.here dst) (.dma sm) h1 h2 h3) k) Q)
  unfold held
  iintro ⟨Hs, Hd, Hv⟩ Hk
  ihave Hs := (Entails.of_eq (congrArg (fun S => (src.view.loc (tV d i) ↦[S]{fullShare} fs : sProp 𝕄)) hsrc.symm)) $$ Hs
  iapply (wp_dmaLocal EC 𝒱₀ (tV d i) none none (dst.view.amount (.dma sm)) rfl (View.amount_pos dst.view (.dma sm) hs) (Finset.Subset.refl _)) $$ [Hs Hd Hv]
  · isplitl [Hs]; · iexact Hs
    isplitl [Hd] <;> iassumption
  iintro HF
  iapply Hk
  iapply (Flight_mono EC (tV d i) ?_) $$ HF
  iintro ⟨Hd, Hs⟩
  isplitl [Hd]; · iexact Hd
  ihave Hs := (Entails.of_eq (congrArg (fun S => (src.view.loc (tV d i) ↦[S]{fullShare} fs : sProp 𝕄)) hsrc)) $$ Hs
  iexact Hs

/-- The tile's two rows, and the semaphores of the copies out. -/
def Rows (fo : Buf (Elt F) (oM.view.loc (tV d i))) (fn : Buf (Elt F) (nM.view.loc (tV d i))) : sProp 𝕄 :=
  iprop((oM.view.loc (tV d i) ↦[rowS (wid i)]{fullShare} fo) ∗ (nM.view.loc (tV d i) ↦[rowS (wid i)]{fullShare} fn)
    ∗ semVal (tV d i, .dma cc0_scoped2.sem) 0 ∗ semVal (tV d i, .dma cc0_scoped3.sem) 0)

section Out

variable {O : CellTallies nD τ sig (HIx 1)} {W : Waits sig (HIx 1)} {f c : ℕ → ℕ → F .f32}

/-- When the last copy out is under way. -/
def Last (O : CellTallies nD τ sig (HIx 1)) (W : Waits sig (HIx 1)) (OS OC : Vec F S32x64 .f32) : sProp 𝕄 :=
  iprop(Flight EC (tV d i) (.dma cc0_scoped3.sem) none (rowN i).view.dmaCredit
      iprop((nM.view.loc (tV d i) ↦[rowS (wid i)]{fullShare} OC) ∗ ∃ g, held d i cvM g)
    ∗ (oM.view.loc (tV d i) ↦[rowS (wid i)]{fullShare} OS) ∗ (∃ g, held d i svM g) ∗ semVal (tV d i, .dma cc0_scoped2.sem) 0
    ∗ cont d i spM (TabOf f) ∗ cont d i cpM (TabOf c) ∗ Idle d i O W iprop(emp))

theorem part29 {v643 : FVec F S16 .f32} (h_v643 : Sm f 48 12 v643) {v646 : FVec F S16 .f32} (h_v646 : Sm c 48 12 v646) {v648_ld : Vec F S1x16 .f32} (h_v648_ld : Ld f 13 48 v648_ld)
    (fo : Buf (Elt F) (oM.view.loc (tV d i))) (fn : Buf (Elt F) (nM.view.loc (tV d i))) (OS OC : Vec F S32x64 .f32)
    (hOS : ∀ j : S32x64.Idx, (j 0).val = wid i → OS j = col (fun l => f l (j 1).val) 15)
    (hOC : ∀ j : S32x64.Idx, (j 0).val = wid i → OC j = col (fun l => c l (j 1).val) 15) :
    Red d i (Idle d i O W (Rows d i fo fn)) f c 48 48 ⊢ wp frame (wpE defs₀ 𝒱₀ (tV d i) none) Set.univ
      (k0_part29 (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3 v643 v646 v648_ld)
      fun _ => Last d i (f := f) (c := c) O W OS OC := by
  rw [k0_part29_eq_skeleton]
  unfold k0_part29_skel
  dsimp only
  refine ldC d i fun v651_ld h_v651_ld => ?_
  refine ldS d i fun v654_ld h_v654_ld => ?_
  refine ldC d i fun v657_ld h_v657_ld => ?_
  refine ldS d i fun v660_ld h_v660_ld => ?_
  refine ldC d i fun v663_ld h_v663_ld => ?_
  have hs : Sm f 48 15 (k0_pay94 v643 v648_ld v654_ld v660_ld) := ((h_v643.add h_v648_ld).add h_v654_ld).add h_v660_ld
  have hc : Sm c 48 15 (k0_pay95 v646 v651_ld v657_ld v663_ld) := ((h_v646.add h_v651_ld).add h_v657_ld).add h_v663_ld
  refine stS d i (off := ![48]) (inb := inb_S64_S16_48) (n := 48) (w := k0_pay94 v643 v648_ld v654_ld v660_ld) rfl ?_ (hl := View.loadsAt_vmem h_S16) (hs := View.stores_vmem_bits_univ h_S16 rfl) (hm := .inl rfl) ?_
  · exact hs
  refine stC d i (off := ![48]) (inb := inb_S64_S16_48) (m := 48) (w := k0_pay95 v646 v651_ld v657_ld v663_ld) rfl ?_ (hl := View.loadsAt_vmem h_S16) (hs := View.stores_vmem_bits_univ h_S16 rfl) (hm := .inl rfl) ?_
  · exact hc
  unfold Red Idle Rows
  iintro ⟨⟨Hxv, Hbv, Ho, Hsems, Hro, Hrn, V2, V3⟩, Hs, Hc, Hsv, Hcv⟩
  unfold cont
  icases Hsv with ⟨%gs, %hgs, Hsv⟩
  icases Hcv with ⟨%gc, %hgc, Hcv⟩
  ihave Hro := (Entails.of_eq (congrArg (fun S : Finset S32x64.Idx => (oM.view.loc (tV d i) ↦[S]{fullShare} fo : sProp 𝕄)) (set_rowO i).symm)) $$ Hro
  ihave Hrn := (Entails.of_eq (congrArg (fun S : Finset S32x64.Idx => (nM.view.loc (tV d i) ↦[S]{fullShare} fn : sProp 𝕄)) (set_rowN i).symm)) $$ Hrn
  iapply (copyK d i (src := svM) (dst := rowO i) (sm := cc0_scoped2.sem) (O := O) (W := W) (fs := gs) (fd := fo) (View.set_whole _) (by decide)) $$ [Hsv Hro V2]
  · isplitl [Hsv]; · iexact Hsv
    isplitl [Hro] <;> iassumption
  iintro F1
  iapply (waitW d i (O := O) (W := W) rfl) $$ [F1 Ho]
  · isplitl [F1] <;> iassumption
  iintro ⟨Hro, Hsv⟩ V2 Ho
  iapply (copyK d i (src := cvM) (dst := rowN i) (sm := cc0_scoped3.sem) (O := O) (W := W) (fs := gc) (fd := fn) (View.set_whole _) (by decide)) $$ [Hcv Hrn V3]
  · isplitl [Hcv]; · iexact Hcv
    isplitl [Hrn] <;> iassumption
  iintro F2
  ihave Hro := (Entails.of_eq (pointsTo_congr (written_rowO d i fo hgs OS hOS))) $$ Hro
  ihave Hro := (Entails.of_eq (congrArg (fun S : Finset S32x64.Idx => (oM.view.loc (tV d i) ↦[S]{fullShare} OS : sProp 𝕄)) (set_rowO i))) $$ Hro
  rw [wp_pure]
  imodintro
  unfold Last Idle cont
  isplitl [F2]
  · iapply (Flight_mono EC (tV d i) ?_) $$ F2
    iintro ⟨Hrn, Hcv⟩
    isplitl [Hrn]
    · ihave Hrn := (Entails.of_eq (pointsTo_congr (written_rowN d i fn hgc OC hOC))) $$ Hrn
      ihave Hrn := (Entails.of_eq (congrArg (fun S : Finset S32x64.Idx => (nM.view.loc (tV d i) ↦[S]{fullShare} OC : sProp 𝕄)) (set_rowN i))) $$ Hrn
      iexact Hrn
    iexists gc; iexact Hcv
  isplitl [Hro]; · iexact Hro
  isplitl [Hsv]
  · iexists gs; iexact Hsv
  isplitl [V2]; · iexact V2
  isplitl [Hs]; · iexact Hs
  isplitl [Hc]; · iexact Hc
  isplitl [Hxv]; · iexact Hxv
  isplitl [Hbv]; · iexact Hbv
  isplitl [Ho]; · iexact Ho
  isplitl [Hsems]; · iexact Hsems
  iempintro

end Out

/-! ## The run -/

/-- The six buffers, at anything. -/
def Bufs : sProp 𝕄 :=
  iprop((∃ f, held d i xvM f) ∗ (∃ f, held d i bvM f) ∗ (∃ f, held d i spM f) ∗ (∃ f, held d i cpM f) ∗ (∃ f, held d i svM f) ∗ ∃ f, held d i cvM f)

set_option maxRecDepth 65536 in
/-- The body of one tile, from its shares of the rows and of the graphs. -/
theorem seg {q1 q2 q3 : PosShare TreeShare} {fx : Buf (Elt F) (xM.view.loc (tV d i))} {fb : Buf (Elt F) (bM.view.loc (tV d i))}
    (hB : ∀ n, elemB fb n < 64) {O : CellTallies nD τ sig (HIx 1)} {W : Waits sig (HIx 1)}
    (fo : Buf (Elt F) (oM.view.loc (tV d i))) (fn : Buf (Elt F) (nM.view.loc (tV d i))) :
    iprop((xM.view.loc (tV d i) ↦[Finset.univ]{q1} fx) ∗ (xM.view.loc (tV d i) ↦[Finset.univ]{q2} fx) ∗ (bM.view.loc (tV d i) ↦[Finset.univ]{q3} fb)
      ∗ Rows d i fo fn ∗ Bufs d i ∗ Sems d i ∗ Ow d i O W) ⊢ wp frame (wpE defs₀ 𝒱₀ (tV d i) none) Set.univ
      (cc0__seg_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3)
      fun _ => iprop(Rows d i (outS fx fb) (outC fb) ∗ Bufs d i ∗ Sems d i ∗ Ow d i O W) := by
  rw [cc0__seg_body_eq_skeleton]
  unfold cc0__seg_body_skel
  dsimp only
  refine BIBase.Entails.trans (Q := Fill.Part d i (Pre d i q1 q2 q3 fx fb O W (Rows d i fo fn)) 0 0) ?_ ?_
  · unfold Bufs Fill.Part Pre Idle cont
    iintro ⟨Hx1, Hx2, Hb, HR, ⟨Hxv, Hbv, ⟨%fs, Hs⟩, ⟨%fc, Hc⟩, Hsv, Hcv⟩, Hsems, Ho⟩
    isplitr [Hs]
    · isplitr [Hc]
      · iframe
      iexists fc
      isplitr
      · ipureintro; intro j hj; exact absurd hj (Nat.not_lt_zero _)
      iexact Hc
    iexists fs
    isplitr
    · ipureintro; intro j hj; exact absurd hj (Nat.not_lt_zero _)
    iexact Hs
  refine bindE d i (part3 d i) fun x hx => ?_
  obtain ⟨v1, v2, v3, v4⟩ := x
  obtain ⟨hv2, h3, h4⟩ := hx
  change v3 = k0_pay27 at h3
  change v4 = k0_pay28 at h4
  change ∀ x, (v2 x).toNat = (x 0).val at hv2
  have hv3 : ∀ x, v3 x = zero := by intro x; rw [h3]; rfl
  have hv4 : ∀ x, v4 x = one := by intro x; rw [h4]; rfl
  clear h3 h4
  dsimp only
  refine bindR d i (part4 d i v3 hv3) fun _ => ?_
  refine bindR d i (part5 d i v3 hv3) fun _ => ?_
  refine bindR d i (part6 d i v3 hv3) fun _ => ?_
  refine bindR d i (part7 d i v3 hv3) fun _ => ?_
  refine bindR d i (part8 d i v3 hv3) fun _ => ?_
  refine bindR d i (part9 d i v3 hv3) fun _ => ?_
  refine bindR d i (part10 d i v3 hv3) fun _ => ?_
  refine bindR d i (part11 d i v3 hv3) fun _ => ?_
  refine bindR d i (part12 d i v3 hv3) fun _ => ?_
  refine bindR d i (part13 d i v3 hv3) fun _ => ?_
  refine bindR d i (part14 d i v3 hv3) fun _ => ?_
  refine bindE d i (part15 d i v3 hv3) fun x hx => ?_
  subst hx
  refine bindE d i (part16 d i v1 v2 hv2 v3 v4 hv3 hv4 hB _) fun x hx => ?_
  obtain ⟨h_v289, h_v292, h_v294_ld⟩ := hx
  refine bindE d i (part17 d i h_v289 h_v292 h_v294_ld) fun x hx => ?_
  obtain ⟨h_v319, h_v322, h_v324_ld⟩ := hx
  refine bindE d i (part18 d i h_v319 h_v322 h_v324_ld) fun x hx => ?_
  obtain ⟨h_v349, h_v352, h_v354_ld⟩ := hx
  refine bindE d i (part19 d i h_v349 h_v352 h_v354_ld) fun x hx => ?_
  obtain ⟨h_v380, h_v382⟩ := hx
  refine bindE d i (part20 d i h_v380 h_v382) fun x hx => ?_
  obtain ⟨h_v409, h_v412⟩ := hx
  refine bindE d i (part21 d i h_v409 h_v412) fun x hx => ?_
  obtain ⟨h_v439, h_v442⟩ := hx
  refine bindE d i (part22 d i h_v439 h_v442) fun x hx => ?_
  obtain ⟨h_v469, h_v472⟩ := hx
  refine bindE d i (part23 d i h_v469 h_v472) fun x hx => ?_
  obtain ⟨h_v496, h_v499⟩ := hx
  refine bindE d i (part24 d i h_v496 h_v499) fun x hx => ?_
  obtain ⟨h_v526, h_v529⟩ := hx
  refine bindE d i (part25 d i h_v526 h_v529) fun x hx => ?_
  obtain ⟨h_v556, h_v559⟩ := hx
  refine bindE d i (part26 d i h_v556 h_v559) fun x hx => ?_
  obtain ⟨h_v583, h_v586, h_v588_ld⟩ := hx
  refine bindE d i (part27 d i h_v583 h_v586 h_v588_ld) fun x hx => ?_
  obtain ⟨h_v613, h_v616, h_v618_ld⟩ := hx
  refine bindE d i (part28 d i h_v613 h_v616 h_v618_ld) fun x hx => ?_
  obtain ⟨h_v643, h_v646, h_v648_ld⟩ := hx
  refine bindR d i (part29 d i h_v643 h_v646 h_v648_ld fo fn (outS fx fb) (outC fb) ?_ ?_) fun _ => ?_
  · intro j hj
    unfold outS sumsOf tabS Xi Bi Ni
    rw [hj]
  · intro j hj
    unfold outC cntsOf tabC Bi Ni
    rw [hj]
  unfold Last Idle
  iintro ⟨F, Hro, Hsv, V2, Hs, Hc, Hxv, Hbv, Ho, Hsems, -⟩
  iapply (waitW d i (O := O) (W := W) rfl) $$ [F Ho]
  · isplitl [F] <;> iassumption
  iintro ⟨Hrn, Hcv⟩ V3 Ho
  rw [wp_pure]
  imodintro
  unfold Rows Bufs cont
  icases Hs with ⟨%gs, -, Hs⟩
  icases Hc with ⟨%gc, -, Hc⟩
  isplitl [Hro Hrn V2 V3]
  · iframe
  isplitl [Hxv Hbv Hs Hc Hsv Hcv]
  · isplitl [Hxv]; · iexact Hxv
    isplitl [Hbv]; · iexact Hbv
    isplitl [Hs]; · iexists gs; iexact Hs
    isplitl [Hc]; · iexists gc; iexact Hc
    isplitl [Hsv] <;> iassumption
  isplitl [Hsems] <;> iassumption

end Cert.Proof.Tile

end
-- ==== Proof.Tasks.lean ====
/-
  The tiles as the launch sees them: what each is handed (two shares of the flattened rows, a share of the graph
  numbers, its row of either table) and hands back (those rows, filled), and its run from there.
-/
module

public import proofs.«01_k».proof.Proof.Tile

@[expose] public section

noncomputable section

namespace Cert.Proof.Tasks

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split)
open Cert.Proof.Tile Cert.Proof.Branch Cert.Proof.Copies Cert.Proof.Arms

variable {F : FTy → Type}

local notation "𝕄" => MT nD τ sig (HIx 1) (Elt F) ℕ UU ℕ

/-! ## A tile's own semaphores and buffers -/

section Own

variable (d : Dev nD) (i : grid0.Coords)

/-- The kernel's semaphores on a tile. -/
def semSet : Finset (SemLoc sig) :=
  {.dma cc0_scratch6.sem, .dma cc0_scratch7.sem, .dma cc0_scoped0.sem, .dma cc0_scratch8.sem, .dma cc0_scratch9.sem, .dma cc0_scoped1.sem,
    .dma cc0_scoped2.sem, .dma cc0_scoped3.sem}

/-- The kernel's buffers on a tile. -/
def bufSet : Finset (Ref sig .scVector) := {cc0_scratch0, cc0_scratch1, cc0_scratch2, cc0_scratch3, cc0_scratch4, cc0_scratch5}

theorem semSet_scoped : ∀ s ∈ semSet, s.isScoped .scVector = true := by decide

/-- A tile's semaphore, by its number on the tile. -/
def semAt : SemLoc sig ↪ GSem nD τ sig := ⟨fun s => (tV d i, s), fun _ _ h => (Prod.mk.injEq _ _ _ _).mp h |>.2⟩
/-- A tile's buffer, by its name on the tile. -/
def bufAt : Ref sig .scVector ↪ DevRef τ sig := ⟨(Proc.scVector (cV i) (jV i)).devRef, Proc.devRef_injective _⟩

theorem sems_split : ∃ R : sProp 𝕄, (ownSems0 (tV d i) : sProp 𝕄)
    = iprop((Sems d i ∗ semVal (tV d i, .dma cc0_scoped2.sem) 0 ∗ semVal (tV d i, .dma cc0_scoped3.sem) 0) ∗ R) := by
  refine ⟨bigSep (ownCells (tV d i) \ semSet.map (semAt d i)) fun g => semVal g 0, ?_⟩
  unfold SparseCore.Cfg.ownSems0
  rw [bigSep_sdiff_split (t := semSet.map (semAt d i)) (fun g hg => by
    obtain ⟨s, hs, rfl⟩ := Finset.mem_map.mp hg
    exact mem_ownCells.mpr ⟨rfl, semSet_scoped s hs⟩), bigSep_map]
  unfold semSet
  rw [bigSep_insert (by decide), bigSep_insert (by decide), bigSep_insert (by decide), bigSep_insert (by decide), bigSep_insert (by decide),
    bigSep_insert (by decide), bigSep_insert (by decide), bigSep_singleton]
  unfold Arms.Sems
  have key : ∀ A B C D E G H I R : sProp 𝕄, iprop((A ∗ B ∗ C ∗ D ∗ E ∗ G ∗ H ∗ I) ∗ R) = iprop(((A ∗ B ∗ C ∗ D ∗ E ∗ G) ∗ H ∗ I) ∗ R) := by
    intro A B C D E G H I R
    have h1 : iprop((A ∗ B ∗ C ∗ D ∗ E ∗ G ∗ H ∗ I) ∗ R) ⊢ iprop(((A ∗ B ∗ C ∗ D ∗ E ∗ G) ∗ H ∗ I) ∗ R) := by
      iintro ⟨⟨A, B, C, D, E, G, H, I⟩, R⟩; iframe
    have h2 : iprop(((A ∗ B ∗ C ∗ D ∗ E ∗ G) ∗ H ∗ I) ∗ R) ⊢ iprop((A ∗ B ∗ C ∗ D ∗ E ∗ G ∗ H ∗ I) ∗ R) := by
      iintro ⟨⟨⟨A, B, C, D, E, G⟩, H, I⟩, R⟩; iframe
    exact BI.Entails.antisymm h1 h2
  exact key _ _ _ _ _ _ _ _ _

theorem bufs_split : ∃ R : sProp 𝕄, (ownBufs (tV d i) : sProp 𝕄) = iprop(Bufs d i ∗ R) := by
  refine ⟨bigSep (ownRefs (τ := τ) (.scVector (cV i) (jV i)) \ bufSet.map (bufAt i)) fun b => iprop(∃ f, ((d, b) : Loc nD τ sig) ↦{fullShare} f), ?_⟩
  unfold SparseCore.Cfg.ownBufs
  rw [show ownRefs (τ := τ) (sig := sig) (tV d i).2 = ownRefs (τ := τ) (.scVector (cV i) (jV i)) from rfl,
    bigSep_sdiff_split (t := bufSet.map (bufAt i)) (fun g hg => by
    obtain ⟨s, hs, rfl⟩ := Finset.mem_map.mp hg
    unfold bufSet at hs
    simp only [Finset.mem_insert, Finset.mem_singleton] at hs
    rcases hs with rfl | rfl | rfl | rfl | rfl | rfl <;>
      exact SparseCore.Cfg.mem_ownRefs_of_owner (p := Proc.scVector (cV i) (jV i)) rfl), bigSep_map]
  unfold bufSet
  rw [bigSep_insert (by decide), bigSep_insert (by decide), bigSep_insert (by decide), bigSep_insert (by decide), bigSep_insert (by decide), bigSep_singleton]
  unfold Bufs
  rfl

end Own

variable [FloatOps F]

/-! ## What the handshakes carry -/

abbrev xLoc (d : Dev nD) : Loc nD τ sig := (SparseCore.T d).loc main_v0
abbrev bLoc (d : Dev nD) : Loc nD τ sig := (SparseCore.T d).loc main_arg4
abbrev oLoc (d : Dev nD) : Loc nD τ sig := (SparseCore.T d).loc main_v1_0
abbrev nLoc (d : Dev nD) : Loc nD τ sig := (SparseCore.T d).loc main_v1_1

variable (fx : (d : Dev nD) → Vec F S1280000 .f32) (fb : (d : Dev nD) → Vec F S10000 .i32)
variable (fo fn : (d : Dev nD) → Vec F S32x64 .f32)

/-- Tile `w`'s rows of the tables, at what the tables hold. -/
def rowsAt (d : Dev nD) (w : Fin 32) (o n : Vec F S32x64 .f32) : sProp 𝕄 :=
  iprop((oLoc d ↦[rowS w.val]{fullShare} o) ∗ nLoc d ↦[rowS w.val]{fullShare} n)

/-- What tile `w` is handed. -/
def handed (d : Dev nD) (w : Fin 32) : sProp 𝕄 :=
  iprop((xLoc d ↦[Finset.univ]{shareTok fullShare.left 32 w} fx d) ∗ (xLoc d ↦[Finset.univ]{shareTok fullShare.right 32 w} fx d)
    ∗ (bLoc d ↦[Finset.univ]{shareTok fullShare 32 w} fb d) ∗ rowsAt d w (fo d) (fn d))

/-- What it hands back. -/
def back (d : Dev nD) (w : Fin 32) : sProp 𝕄 := rowsAt d w (outS (fx d) (fb d)) (outC (fb d))

/-- The tile of SparseCore `c` and subcore `i`, among the thirty-two. -/
abbrev tile (c : Fin 2) (i : Fin 16) : Fin 32 := finProdFinEquiv (c, i)

/-- The call's payloads. -/
def P : (K (F := F)).Pay (nD := nD) (Val := Elt F) (Name := ℕ) (U := UU) where
  st := fun q d c => match q with | 0 => bigSep Finset.univ fun i : Fin 16 => handed fx fb fo fn d (tile c i)
  dn := fun q d c => match q with | 0 => bigSep Finset.univ fun i : Fin 16 => back fx fb d (tile c i)
  go := fun q d c i => match q with | 0 => handed fx fb fo fn d (tile c i)
  td := fun q d c i => match q with | 0 => back fx fb d (tile c i)
  x := fun _ _ => iprop(emp)

instance rowsAt_storable (d : Dev nD) (w : Fin 32) (o n : Vec F S32x64 .f32) : BI.Storable (upEmb : UEmb _ 𝕄) (rowsAt d w o n) := by
  unfold rowsAt; infer_instance
instance handed_storable (d : Dev nD) (w : Fin 32) : BI.Storable (upEmb : UEmb _ 𝕄) (handed fx fb fo fn d w) := by
  unfold handed; infer_instance
instance back_storable (d : Dev nD) (w : Fin 32) : BI.Storable (upEmb : UEmb _ 𝕄) (back fx fb d w) := by
  unfold back; infer_instance

instance P_storable : (P fx fb fo fn).IsStorable where
  st q d c := match q with
    | 0 => (inferInstance : BI.Storable (upEmb : UEmb _ 𝕄) (bigSep Finset.univ fun i : Fin 16 => handed fx fb fo fn d (tile c i)))
  dn q d c := match q with
    | 0 => (inferInstance : BI.Storable (upEmb : UEmb _ 𝕄) (bigSep Finset.univ fun i : Fin 16 => back fx fb d (tile c i)))
  go q d c i := match q with | 0 => handed_storable fx fb fo fn d (tile c i)
  td q d c i := match q with | 0 => back_storable fx fb d (tile c i)

/-! ## A tile's run -/

def coordsV (c : Fin (grid0.bound 0)) (s : Fin (grid0.bound 1)) : grid0.Coords :=
  fun | 0 => c | 1 => s | ⟨_ + 2, h⟩ => absurd h (Nat.not_lt.2 (Nat.le_add_left _ _))

theorem tile_body (hB : ∀ d n, elemB (fb d) n < 64) (d : Dev nD) (i : grid0.Coords) (w : Fin 32) (hw : w.val = wid i)
    (O : CellTallies nD τ sig (HIx 1)) (W : Waits sig (HIx 1)) (hO : ∀ g, O g none = 0) :
    iprop(levAts (K (F := F)).L (K (F := F)).lev ∗ emp ∗ handed fx fb fo fn d w
        ∗ scopedBufs (tV d i) ∗ scopedSems0 (tV d i) ∗ owes (tV d i) O W)
      ⊢ wp frame (wpE (defs₀ (F := F)) 𝒱₀ (tV d i) none) Set.univ
          (cc0__seg_body (F := F) i xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3)
          fun _ => iprop(back fx fb d w ∗ scopedBufs (tV d i) ∗ scopedSems0 (tV d i)
            ∗ ∃ W', ⌜∀ p ∈ W', p ∈ W ∨ p.2 = none ∨ p.2 = some 0⌝ ∗ owes (tV d i) O W') := by
  obtain ⟨RS, hRS⟩ := sems_split (F := F) d i
  obtain ⟨RB, hRB⟩ := bufs_split (F := F) d i
  have hsb : (scopedBufs (tV d i) : sProp 𝕄) = iprop(Bufs d i ∗ RB) := ((K (F := F)).scopedBufs_V facts d (cV i) (jV i)).trans hRB
  have hss : (scopedSems0 (tV d i) : sProp 𝕄) = _ := (SparseCore.Cfg.scopedSems0_V (Val := Elt F) d (cV i) (jV i)).trans hRS
  rw [hsb, hss]
  unfold handed back rowsAt
  rw [hw]
  have run := seg (F := F) d i (q1 := shareTok fullShare.left 32 w) (q2 := shareTok fullShare.right 32 w) (q3 := shareTok fullShare 32 w)
    (fx := fx d) (fb := fb d) (hB d) (O := O) (W := W) (fo d) (fn d)
  refine BIBase.Entails.trans (Q := iprop(((xM.view.loc (tV d i) ↦[Finset.univ]{shareTok fullShare.left 32 w} fx d) ∗ (xM.view.loc (tV d i) ↦[Finset.univ]{shareTok fullShare.right 32 w} fx d)
    ∗ (bM.view.loc (tV d i) ↦[Finset.univ]{shareTok fullShare 32 w} fb d) ∗ Rows d i (fo d) (fn d) ∗ Bufs d i ∗ Sems d i ∗ Ow d i O W) ∗ RB ∗ RS)) ?_
    (BIBase.Entails.trans (sep_mono_left run) (BIBase.Entails.trans (wp_frame_r _ _ _) (wp_mono frame _ _ fun _ => ?_)))
  · unfold Rows Ow
    iintro ⟨#Hlv, -, ⟨Hx1, Hx2, Hb, Ho, Hn⟩, ⟨HB, HRB⟩, ⟨⟨HS, HV2, HV3⟩, HRS⟩, HO⟩
    ihave Hmw := ((K (F := F)).mayWaits_none (thr := tV d i) hO) $$ Hlv
    isplitl [Hx1 Hx2 Hb Ho Hn HB HS HV2 HV3 HO Hmw]
    · isplitl [Hx1]; · iexact Hx1
      isplitl [Hx2]; · iexact Hx2
      isplitl [Hb]; · iexact Hb
      isplitl [Ho Hn HV2 HV3]
      · isplitl [Ho]; · iexact Ho
        isplitl [Hn]; · iexact Hn
        isplitl [HV2] <;> iassumption
      isplitl [HB]; · iexact HB
      isplitl [HS]; · iexact HS
      isplitl [Hmw]; · iexact Hmw
      iexists W
      isplitr
      · ipureintro; exact fun p hp => .inl hp
      iexact HO
    isplitl [HRB] <;> iassumption
  · unfold Rows Ow
    iintro ⟨⟨⟨Ho, Hn, HV2, HV3⟩, HB, HS, -, %W', %hW', HO⟩, HRB, HRS⟩
    isplitl [Ho Hn]
    · isplitl [Ho]; · iexact Ho
      iexact Hn
    isplitl [HB HRB]; · isplitl [HB] <;> iassumption
    isplitl [HS HV2 HV3 HRS]
    · isplitr [HRS]; swap; · iexact HRS
      isplitl [HS]; · iexact HS
      isplitl [HV2] <;> iassumption
    iexists W'
    isplitr
    · ipureintro; exact fun p hp => (hW' p hp).imp_right Or.inl
    iexact HO

theorem defs₀_vector (c : Fin τ.nSC) (s : Fin τ.nSub) :
    defs₀ (F := F) (.scVector c s) 0 ()
      = SparseCore.onTile hcore0 hsub0 (fun c s => cc0__seg_body (F := F) (coordsV c s)
          xM (Memref.isWhole_whole _) bM (Memref.isWhole_whole _) oM (Memref.isWhole_whole _) nM (Memref.isWhole_whole _) xvM (Memref.isWhole_whole _) bvM (Memref.isWhole_whole _) spM (Memref.isWhole_whole _) cpM (Memref.isWhole_whole _) svM (Memref.isWhole_whole _) cvM (Memref.isWhole_whole _) cc0_scratch6 cc0_scratch7 cc0_scratch8 cc0_scratch9 cc0_scoped0 cc0_scoped1 cc0_scoped2 cc0_scoped3) ⟨⟩ c s := rfl

theorem tile_wid (c : Fin 2) (i : Fin 16) : (tile c i).val = wid (coordsV c i) := by
  show i.val + 16 * c.val = 16 * c.val + i.val
  omega

set_option maxRecDepth 16384 in
theorem tileObl (hB : ∀ d n, elemB (fb d) n < 64) : (K (F := F)).TileObl (D (F := F)) 𝒱 (P fx fb fo fn) v₀ 0 := by
  intro d c i O W hO _ _
  simp only [show (P fx fb fo fn).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fx fb fo fn hB d (coordsV ⟨_, hci.1⟩ ⟨_, hci.2⟩) (tile c i) (tile_wid c i) O W hO).trans
    (wp_mono frame _ _ fun _ => BI.Entails.refl _)

theorem vecSplit : (K (F := F)).VecSplit' (P fx fb fo fn) 0 := by
  intro d c
  show (bigSep Finset.univ fun i : Fin 16 => handed fx fb fo fn d (tile c i)) ⊢ |={Set.univ}=> iprop(
      (bigSep Finset.univ fun i : Fin 16 => handed fx fb fo fn d (tile c i))
      ∗ ((bigSep Finset.univ fun i : Fin 16 => back fx fb d (tile c i)) -∗ (bigSep Finset.univ fun i : Fin 16 => back fx fb d (tile c i))))
  iintro H
  imodintro
  isplitl [H]; · iexact H
  iintro H
  iexact H

/-! ## All the tiles together -/

theorem rows_disjoint : ∀ w ∈ (Finset.univ : Finset (Fin 32)), ∀ w' ∈ (Finset.univ : Finset (Fin 32)), w ≠ w' → Disjoint (rowS w.val) (rowS w'.val) := by
  intro w _ w' _ h
  refine Finset.disjoint_left.mpr fun j hj hj' => h (Fin.ext ?_)
  exact (Finset.mem_filter.mp hj).2.symm.trans (Finset.mem_filter.mp hj').2

theorem rows_cover : (Finset.univ : Finset (Fin 32)).biUnion (fun w => rowS w.val) = Finset.univ := by
  ext j
  simp only [Finset.mem_biUnion, Finset.mem_univ, true_and, iff_true]
  exact ⟨j 0, Finset.mem_filter.mpr ⟨Finset.mem_univ _, rfl⟩⟩

omit [FloatOps F] in
theorem rows_all (d : Dev nD) (o n : Vec F S32x64 .f32) :
    (bigSep Finset.univ fun w : Fin 32 => rowsAt d w o n) = (iprop((oLoc d ↦{fullShare} o) ∗ nLoc d ↦{fullShare} n) : sProp 𝕄) := by
  unfold rowsAt
  rw [bigSep_sep', ← pointsTo_biUnion Finset.univ (ℓ := oLoc d) (fun w : Fin 32 => rowS w.val) rows_disjoint,
    ← pointsTo_biUnion Finset.univ (ℓ := nLoc d) (fun w : Fin 32 => rowS w.val) rows_disjoint, rows_cover]

theorem tiles_all (Φ : Fin 32 → sProp 𝕄) :
    (bigSep Finset.univ fun c : Fin 2 => bigSep Finset.univ fun i : Fin 16 => Φ (tile c i)) = bigSep Finset.univ Φ := by
  exact (bigSep_univ_prod (fun p : Fin 2 × Fin 16 => Φ (tile p.1 p.2))).symm.trans
    (bigSep_univ_equiv (finProdFinEquiv : Fin 2 × Fin 16 ≃ Fin 32) Φ).symm

/-- The flattened rows, the graph numbers and the two tables, given out among the tiles, a share of the graph numbers kept. -/
theorem give (d : Dev nD) :
    iprop((xLoc d ↦{fullShare} fx d) ∗ (bLoc d ↦{fullShare} fb d) ∗ (oLoc d ↦{fullShare} fo d) ∗ nLoc d ↦{fullShare} fn d)
      ⊢ iprop((bigSep Finset.univ fun c : Fin ((K (F := F)).nCore 0) => (P fx fb fo fn).st 0 d c) ∗ bLoc d ↦{shareDrop fullShare 32} fb d) := by
  rw [show (bigSep Finset.univ fun c : Fin ((K (F := F)).nCore 0) => (P fx fb fo fn).st 0 d c)
      = bigSep Finset.univ (handed fx fb fo fn d) from tiles_all (handed fx fb fo fn d)]
  unfold handed
  rw [bigSep_sep', bigSep_sep', bigSep_sep', rows_all]
  iintro ⟨Hx, Hb, Ho, Hn⟩
  ihave H := (pointsTo_share (PosShare.mem_left_op_right fullShare)).1 $$ Hx
  icases H with ⟨H1, H2⟩
  ihave H1 := (pointsTo_toks_split fullShare.left 32) $$ H1
  ihave H2 := (pointsTo_toks_split fullShare.right 32) $$ H2
  ihave Hb := (pointsTo_toks_split fullShare 32) $$ Hb
  icases H1 with ⟨-, H1⟩
  icases H2 with ⟨-, H2⟩
  icases Hb with ⟨Hk, Hb⟩
  isplitr [Hk]; swap; · iexact Hk
  isplitl [H1]; · iexact H1
  isplitl [H2]; · iexact H2
  isplitl [Hb]; · iexact Hb
  isplitl [Ho] <;> iassumption

/-- The tables filled, from what the tiles hand back. -/
theorem take (d : Dev nD) :
    (bigSep Finset.univ fun c : Fin ((K (F := F)).nCore 0) => (P fx fb fo fn).dn 0 d c)
      ⊢ iprop((oLoc d ↦{fullShare} outS (fx d) (fb d)) ∗ nLoc d ↦{fullShare} outC (fb d)) := by
  rw [show (bigSep Finset.univ fun c : Fin ((K (F := F)).nCore 0) => (P fx fb fo fn).dn 0 d c)
      = bigSep Finset.univ (back fx fb d) from tiles_all (back fx fb d)]
  unfold back
  rw [rows_all]

end Cert.Proof.Tasks

end
-- ==== Proof.Combine.lean ====
/-
  The combining kernel on the TensorCore: its body's run, its pipeline's proof data, and its region of @main, entered
  from the two tables, the small table and the result's buffer and left with the result stored.
-/
module

public import Idealize.ShloMosaic.Lib.Pipeline.Value
public import Idealize.ShloMosaic.Lib.Pipeline.ValueKit.Geometry
public import proofs.«01_k».proof.Proof.Setup

@[expose] public section

noncomputable section

namespace Cert.Proof.Combine

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-- A memref's buffer on core `c`, held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev M0 : Memref sig .tc .vmem S32x64 .f32 := stage1_0 0
abbrev M1 : Memref sig .tc .vmem S32x64 .f32 := stage1_1 0
abbrev M2 : Memref sig .tc .vmem S64x8 .f32 := stage1_2 0
abbrev M3 : Memref sig .tc .vmem S1x64 .f32 := stage1_3 0

theorem read_all {c : Dev nD} {sp : Space} {S : Shape} (M : Memref sig .tc sp S .f32) {off : Fin S.rank → ℕ} (h : off = fun _ => 0)
    (inb : ∀ a, off a + S.size a ≤ S.size a) (f : Buf (Elt F) (M.view.loc (c : Thread nD τ))) :
    M.view.readAt (Elt F) (Rect.unit off S.size inb).toLoadRect f = M.view.read (Elt F) f := by
  subst h
  funext x
  exact congrArg (M.view.read (Elt F) f) (Rect.emb_whole_apply S x)

theorem off00 : (![0, 0] : Fin 2 → ℕ) = fun _ => 0 := by
  funext a
  match a with
  | 0 => rfl
  | 1 => rfl

theorem write_all {off : Fin S1x64.rank → ℕ} (h : off = fun _ => 0) (inb : ∀ a, off a + S1x64.size a ≤ S1x64.size a)
    (c : Dev nD) (f : Buf (Elt F) (M3.view.loc (c : Thread nD τ))) (w : Vec F S1x64 .f32) :
    (M3.access (Rect.unit (s := S1x64) off S1x64.size inb)).write (Elt F) f w Finset.univ = w := by
  subst h
  funext j
  have e := View.write_emb_of_mem (v := M3.access (Rect.unit (s := S1x64) (fun _ => 0) S1x64.size inb)) (Val := Elt F) f w (M := Finset.univ) (x := j) (Finset.mem_univ _)
  have hj : (M3.access (Rect.unit (s := S1x64) (fun _ => 0) S1x64.size inb)).emb j = j := Rect.emb_whole_apply S1x64 j
  rw [hj] at e
  exact e

/-- The body: the three operands read, the quotient of sums by counts added to the small table's row sums, and the whole
    divided by the number of columns. -/
theorem body_run (c : Dev nD) (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) (Q : PUnit → sProp 𝕄) :
    iprop(pt c M0 f0 ∗ pt c M1 f1 ∗ pt c M2 f2 ∗ pt c M3 f3
        ∗ (iprop(pt c M0 f0 ∗ pt c M1 f1 ∗ pt c M2 f2 ∗ pt c M3 (k1_pay1 (M0.view.read (Elt F) f0) (M1.view.read (Elt F) f1) (M2.view.read (Elt F) f2))) -∗ Q ⟨⟩))
      ⊢ wp frame (wpE (defs₀ (F := F)) Variants.none c none) Set.univ
          (cc1__combine_body M0 (hstage1_0 0) M1 (hstage1_1 0) M2 (hstage1_2 0) M3 (hstage1_3 0)) Q := by
  rw [cc1__combine_body_eq_skeleton]
  unfold cc1__combine_body_skel
  simp only [Prog.lift, Prog.bind_op, Prog.bind_ret, Prog.pure_eq_ret]
  iintro ⟨H0, H1, H2, H3, Hk⟩
  iapply (wp_load Variants.none (c : Thread nD τ) none Set.univ (m := M0) (S := Finset.univ) (Finset.subset_univ _)) $$ H0
  iintro H0
  iapply (wp_load Variants.none (c : Thread nD τ) none Set.univ (m := M1) (S := Finset.univ) (Finset.subset_univ _)) $$ H1
  iintro H1
  iapply (wp_load Variants.none (c : Thread nD τ) none Set.univ (m := M2) (S := Finset.univ) (Finset.subset_univ _)) $$ H2
  iintro H2
  iapply (wp_load Variants.none (c : Thread nD τ) none Set.univ (m := M3) (S := Finset.univ) (Finset.subset_univ _)) $$ H3
  iintro H3
  iapply (wp_store Variants.none (c : Thread nD τ) none Set.univ (m := M3) (r := Rect.unit (s := S1x64) ![0, 0] S1x64.size inb_S1x64_S1x64_0_0) (Mk := Finset.univ) (S := Finset.univ) (Finset.subset_univ _)) $$ H3
  iintro H3
  rw [wp_ret]
  imodintro
  iapply Hk
  isplitl [H0]; · iexact H0
  isplitl [H1]; · iexact H1
  isplitl [H2]; · iexact H2
  rw [read_all M0 off00, read_all M1 off00, read_all M2 off00]
  iapply (Entails.of_eq (congrArg (fun g : Buf (Elt F) (M3.view.loc (c : Thread nD τ)) => (M3.view.loc (c : Thread nD τ) ↦{fullShare} g : sProp 𝕄))
    (write_all off00 inb_S1x64_S1x64_0_0 c f3 (k1_pay1 (M0.view.read (Elt F) f0) (M1.view.read (Elt F) f1) (M2.view.read (Elt F) f2)))))
  iexact H3

/-! ## The pipeline's proof data -/

variable (o n : Vec F S32x64 .f32) (u : Vec F S64x8 .f32)

/-- What the region leaves: the body's payload of the three operands. -/
abbrev comb : Vec F S1x64 .f32 := k1_pay1 o n u

/-- The pairs of a semaphore and a level's index at which the TensorCore's waits may have been recorded: within the call's. -/
abbrev below (c : Dev nD) : Set (SemLoc sig × HIx 1) := {p | (K (F := F)).lev (SparseCore.T c, p.1) p.2 ≤ 8}

/-- The region's proof data: the tables, the small table, the result's buffer as found; staging as fetched, then the
    result's as the body leaves it; no invariant; nothing owed. -/
def dat (v : Vec F S1x64 .f32) (c : Dev nD) : Dat τ (Elt F) (HIx 1) ℕ UU ℕ cfg1 c where
  A w := match w with
    | ⟨0, _⟩ => o
    | ⟨1, _⟩ => n
    | ⟨2, _⟩ => u
    | ⟨3, _⟩ => v
  after w _ := match w with
    | ⟨0, _⟩ => o
    | ⟨1, _⟩ => n
    | ⟨2, _⟩ => u
    | ⟨3, _⟩ => comb o n u
  Φ _ := BI.emp
  q _ := fullShare
  owed _ := 0
  recorded _ := below (F := F) c

variable (v : Vec F S1x64 .f32)

abbrev dats (p : Fin 1) (c : Dev nD) : Dat τ (Elt F) (HIx 1) ℕ UU ℕ (Pipeline.pin (pcfgs (F := F)) adm p) c := dat o n u v c

theorem win_zero (w : Fin 4) (a) : (win1 w).index t1_0 a = 0 := by
  revert a
  match w with
  | 0 => decide
  | 1 => decide
  | 2 => decide
  | 3 => decide

theorem before0 (c : Dev nD) (x) : (dat o n u v c).before 0 t1_0 x = o := by
  unfold Dat.before
  rw [if_pos (by decide)]
  funext j
  show o (((cfg1.win 0).blk t1_0).view.emb j) = o j
  exact congrArg o (funext fun a => Fin.ext ((cfg1.win 0).rect_emb_val_of_index_zero _ _ (win_zero 0 a) _))
theorem before1 (c : Dev nD) (x) : (dat o n u v c).before 1 t1_0 x = n := by
  unfold Dat.before
  rw [if_pos (by decide)]
  funext j
  show n (((cfg1.win 1).blk t1_0).view.emb j) = n j
  exact congrArg n (funext fun a => Fin.ext ((cfg1.win 1).rect_emb_val_of_index_zero _ _ (win_zero 1 a) _))
theorem before2 (c : Dev nD) (x) : (dat o n u v c).before 2 t1_0 x = u := by
  unfold Dat.before
  rw [if_pos (by decide)]
  funext j
  show u (((cfg1.win 2).blk t1_0).view.emb j) = u j
  exact congrArg u (funext fun a => Fin.ext ((cfg1.win 2).rect_emb_val_of_index_zero _ _ (win_zero 2 a) _))

theorem final3 (c : Dev nD) : (dat o n u v c).arrAt 3 cfg1.N = comb o n u := by
  refine (dat o n u v c).arrAt_eq_of_after_last 3 t1_0 (by decide +kernel) _ fun j => ?_
  rfl

/-- What the body owes at the point. -/
theorem body_obligation (c : Dev nD) : BodyObligation (dat o n u v c) (defs₀ (F := F)) Variants.none none Set.univ := fun t => by
  obtain rfl := fin_N1 t
  rw [bigSep_W1, bigSep_W1]
  simp only [owns_whole_eq]
  rw [show (dat o n u v c).Φ t1_0.castSucc = BI.emp from rfl, show (dat o n u v c).Φ t1_0.succ = BI.emp from rfl,
    show (dat o n u v c).owesAt none t1_0.succ = (dat o n u v c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  iapply (body_run c f0 f1 f2 f3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists _; isplitr; swap; (· iexact H3); ipureintro
  subst hf0 hf1 hf2
  rfl

/-! ## The region -/

/-- One of the TensorCore's arrays, whole, at `f`. -/
abbrev own (c : Dev nD) (b : Ref sig .tc) (f : Buf (Elt F) ((c : Thread nD τ).loc b)) : sProp 𝕄 := (c : Thread nD τ).loc b ↦{fullShare} f

/-- What the TensorCore's thread owes outside a call: nothing, its waits recorded within the call's levels. -/
abbrev Debt (c : Dev nD) : sProp 𝕄 :=
  iprop(∃ W, ⌜∀ p ∈ W, p ∈ below (F := F) c⌝ ∗ owes (c : Thread nD τ) (0 : CellTallies nD τ sig (HIx 1)) W)

set_option backward.isDefEq.respectTransparency.types false in
theorem arrays_four (c : Dev nD) (X : (w : Fin cfg1.W) → Buf (Elt F) ((cfg1.win w).arr.view.loc (c : Thread nD τ))) :
    ((dats o n u v 0 c).arrays X : sProp 𝕄)
      = iprop(own c main_v1_0 (X 0) ∗ own c main_v1_1 (X 1) ∗ own c main_arg3 (X 2) ∗ own c main_v2 (X 3)) := by
  rw [Pipeline.arrays_eq (Pipeline.pin (pcfgs (F := F)) adm) (dats o n u v) 0 c launch1.arr_whole ((dats o n u v 0 c).share_full fun _ => rfl)]
  exact bigSep_W1 _

set_option backward.isDefEq.respectTransparency.types false in
/-- The combining kernel's region: entered holding the two tables, the small table and the result's buffer, left with the
    result in its buffer and the others as they were. -/
def reg : Pipeline.RegionSeg (pcfgs (F := F)) adm (dats o n u v) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation o n u v c).loose
  hwaits := Pipeline.hwaits_of_owed_zero _ _ _ _ (K (F := F)).L (K (F := F)).lev 0 fun _ _ => rfl
  pre c := iprop((own c main_v1_0 o ∗ own c main_v1_1 n ∗ own c main_arg3 u ∗ own c main_v2 v) ∗ Debt c)
  post c := iprop((own c main_v1_0 o ∗ own c main_v1_1 n ∗ own c main_arg3 u ∗ own c main_v2 (comb o n u)) ∗ Debt c)
  X _ := BI.emp
  Y _ := BI.emp
  Z _ := BI.emp
  hentry c := by
    rw [Pipeline.ownSems0_none, arrays_four]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (dats o n u v 0 c).Φ 0 = BI.emp from rfl]
    iintro -; iempintro
  hout c := by
    rw [Pipeline.ownSems0_none, show (dats o n u v 0 c).Φ (Fin.last _) = BI.emp from rfl,
      show (Pipeline.scopedRest (Pipeline.pin (pcfgs (F := F)) adm 0).spec c : sProp 𝕄) = BI.emp from scopedRest1_eq c]
    iintro -
    isplitr; · iempintro
    isplitr <;> iempintro
  hexit c := by
    rw [arrays_four, (dat o n u v c).arrAt_in 0 rfl, (dat o n u v c).arrAt_in 1 rfl, (dat o n u v c).arrAt_in 2 rfl, final3]
    iintro ⟨Ha, HO, -, -⟩
    imodintro
    isplitl [Ha]; · iexact Ha
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

end Cert.Proof.Combine

end
-- ==== Proof.Region.lean ====
/-
  The combining region, as the launch runs it: its rule with the ghost state it starts from.
-/
module

public import proofs.«01_k».proof.Proof.Combine

@[expose] public section

noncomputable section

namespace Cert.Proof.Region

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Combine

variable {F : FTy → Type}

local notation "𝕄" => MT nD τ sig (HIx 1) (Elt F) ℕ UU ℕ

variable [FloatOps F]

abbrev pinned (p : Fin 1) := Pipeline.pin (pcfgs (F := F)) adm p

theorem phinj : Function.Injective (Pipeline.cellOf (nD := nD) (τ := τ) (pinned (F := F))) := cellOf_inj

/-- What @main starts from beside the launch's own: the region's ghost state. -/
abbrev G (d : Dev nD) : sProp 𝕄 := iprop(Pipeline.cellsGhost (pinned (F := F)) EP 0 d ∗ Pipeline.toksInit (pinned (F := F)) EP 0 d)

/-- The region's call, in the kernels' own signature. -/
abbrev call : Prog (TpuEff nD τ sig (Elt F) (ΛP (F := F)) .tc) PUnit := .op (.customCall (Pipeline.entry 0) ()) .ret

theorem call_lifted : (Prog.lift (.customCall (SparseCore.inner (Pipeline.entry 0)) ()) : Prog (TpuEff nD τ sig (Elt F) (SparseCore.Sig (ΛP (F := F)) 1) .tc) PUnit)
    = SparseCore.liftProg (Q := 1) (call (F := F)) := rfl

theorem call_wp (d : Dev nD) (o n : Vec F S32x64 .f32) (u : Vec F S64x8 .f32) (v : Vec F S1x64 .f32) (Φ : PUnit → sProp 𝕄) :
    iprop((iprop(boundary (SparseCore.T d) ∗ (reg o n u v).post d) -∗ Φ ⟨⟩)
        ∗ boundary (SparseCore.T d) ∗ (reg o n u v).pre d ∗ levAts (K (F := F)).L (K (F := F)).lev ∗ G (F := F) d)
      ⊢ wp frame (wpE (D (F := F)) 𝒱 (SparseCore.T d) none) Set.univ (call (F := F)) Φ := by
  have h := (Pipeline.RegionSeg.wp (pcfgs (F := F)) adm (dats o n u v) none phinj EP defs₀ 𝒱₀ (K (F := F)).L (K (F := F)).lev
    (reg o n u v) d none (fun _ h => nomatch h) .ret Φ)
  refine BIBase.Entails.trans ?_ h
  iintro ⟨Hk, Hb, Hp, Hl, Hg, Ht⟩
  isplitl [Hk]
  · iintro H
    rw [wp_ret]
    imodintro
    iapply Hk
    iexact H
  isplitl [Hb]; · iexact Hb
  isplitl [Hp]; · iexact Hp
  isplitl [Hl]; · iexact Hl
  isplitl [Hg] <;> iassumption

theorem region_wp (d : Dev nD) (o n : Vec F S32x64 .f32) (u : Vec F S64x8 .f32) (v : Vec F S1x64 .f32) (Φ : PUnit → sProp 𝕄) :
    iprop((iprop(boundary (SparseCore.T d) ∗ (own d main_v1_0 o ∗ own d main_v1_1 n ∗ own d main_arg3 u ∗ own d main_v2 (comb o n u)) ∗ Debt (F := F) d) -∗ Φ ⟨⟩)
        ∗ boundary (SparseCore.T d) ∗ ((own d main_v1_0 o ∗ own d main_v1_1 n ∗ own d main_arg3 u ∗ own d main_v2 v) ∗ Debt (F := F) d) ∗ levAts (K (F := F)).L (K (F := F)).lev ∗ G (F := F) d)
      ⊢ wp frame (wpE ((K (F := F)).defs (D (F := F))) 𝒱 (SparseCore.T d) none) Set.univ (SparseCore.liftProg (Q := 1) (call (F := F))) Φ :=
  (call_wp d o n u v Φ).trans ((K (F := F)).wp_liftProg (D (F := F)) 𝒱 (SparseCore.T d) Set.univ none (call (F := F)) Φ)

end Cert.Proof.Region

end
-- ==== Proof.Launch.lean ====
/-
  The whole program's run, with what it leaves: the launch of the thirty-two tiles, the combining region, and the two
  reshapes around them, over any float values.
-/
module

public import proofs.«01_k».proof.Proof.Tasks
public import proofs.«01_k».proof.Proof.Region

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Transfers (shareDrop)
open Cert.Proof.Tile Cert.Proof.Branch Cert.Proof.Tasks Cert.Proof.Combine Cert.Proof.Region

variable {F : FTy → Type}

local notation "𝕄" => MT nD τ sig (HIx 1) (Elt F) ℕ UU ℕ

variable (m : (ℓ : Loc nD τ sig) → Buf (Elt F) ℓ) (ρ : Dev nD → PrngReg)

/-! ## What the launch memory holds, and what the run leaves -/

/-- The rows, flattened. -/
def flat (d : Dev nD) : Vec F S1280000 .f32 := fun i => shapeCast S1280000 (m ((SparseCore.T d).loc main_arg0)) shapeCasts_S10000x128_S1280000 i
/-- The graph numbers. -/
def graphs (d : Dev nD) : Vec F S10000 .i32 := m ((SparseCore.T d).loc main_arg4)
/-- The small table. -/
def small (d : Dev nD) : Vec F S64x8 .f32 := m ((SparseCore.T d).loc main_arg3)

variable [FloatOps F]

/-- What the combining region leaves. -/
def combined (d : Dev nD) : Vec F S1x64 .f32 := comb (outS (flat m d) (graphs m d)) (outC (graphs m d)) (small m d)
/-- The result. -/
def answer (d : Dev nD) : Vec F S64 .f32 := fun i => shapeCast S64 (combined m d) shapeCasts_S1x64_S64 i

/-! ## The host's two reshapes -/

abbrev a0' : DevRef τ sig := Proc.devRef .tc (main_arg0 : Ref sig .tc)
abbrev x' : DevRef τ sig := Proc.devRef .tc (main_v0 : Ref sig .tc)
abbrev c' : DevRef τ sig := Proc.devRef .tc (main_v2 : Ref sig .tc)
abbrev r' : DevRef τ sig := Proc.devRef .tc (main_v3 : Ref sig .tc)

abbrev opIn : HloOp τ sig (Elt F) := StableHlo.reshape main_arg0 main_v0 (rfl : (.f32 : EltTy) = .f32) shapeCasts_S10000x128_S1280000
abbrev opOut : HloOp τ sig (Elt F) := StableHlo.reshape main_v2 main_v3 (rfl : (.f32 : EltTy) = .f32) shapeCasts_S1x64_S64

/-- The launch valuation; -/
def V0 (d : Dev nD) : Valuation τ sig (Elt F) := fun b => m (d, b)
/-- after the region, with the combined row in its buffer. -/
def V1 (d : Dev nD) : Valuation τ sig (Elt F) := Function.update (V0 m d) c' (combined m d)

abbrev SIn : Finset (DevRef τ sig) := {a0', x'}
abbrev SOut : Finset (DevRef τ sig) := {c', r'}

theorem held_in (d : Dev nD) (W : Valuation τ sig (Elt F)) :
    (StableHlo.held (SparseCore.T d) SIn W : sProp 𝕄) = iprop(((SparseCore.T d).loc main_arg0 ↦{fullShare} W a0') ∗ (SparseCore.T d).loc main_v0 ↦{fullShare} W x') := by
  unfold StableHlo.held SIn
  rw [SparseCore.bigSep_insert' (by decide), bigSep_singleton]
theorem held_out (d : Dev nD) (W : Valuation τ sig (Elt F)) :
    (StableHlo.held (SparseCore.T d) SOut W : sProp 𝕄) = iprop(((SparseCore.T d).loc main_v2 ↦{fullShare} W c') ∗ (SparseCore.T d).loc main_v3 ↦{fullShare} W r') := by
  unfold StableHlo.held SOut
  rw [SparseCore.bigSep_insert' (by decide), bigSep_singleton]

theorem in_a0 (d : Dev nD) : (opIn (F := F)).result (V0 m d) a0' = m ((SparseCore.T d).loc main_arg0) :=
  (opIn (F := F)).result_of_not_mem (V0 m d) (b := a0') (show a0' ∉ ({x'} : Finset (DevRef τ sig)) by decide)
theorem in_x (d : Dev nD) : (opIn (F := F)).result (V0 m d) x' = flat m d :=
  ((opIn (F := F)).result_of_mem (V0 m d) (b := x') (Finset.mem_singleton_self _)).trans rfl
theorem V1_c (d : Dev nD) : V1 m d c' = combined m d := Function.update_self _ _ _
theorem V1_r (d : Dev nD) : V1 m d r' = m ((SparseCore.T d).loc main_v3) := Function.update_of_ne (show r' ≠ c' by decide) _ _
theorem out_r (d : Dev nD) : (opOut (F := F)).result (V1 m d) r' = answer m d := by
  refine ((opOut (F := F)).result_of_mem (V1 m d) (b := r') (Finset.mem_singleton_self _)).trans ?_
  show (fun i => shapeCast S64 (V1 m d c') shapeCasts_S1x64_S64 i) = _
  rw [V1_c]; rfl

theorem bufs_in : (opIn (F := F)).bufs ⊆ SIn := show ({a0', x'} : Finset (DevRef τ sig)) ⊆ SIn by decide
theorem bufs_out : (opOut (F := F)).bufs ⊆ SOut := show ({c', r'} : Finset (DevRef τ sig)) ⊆ SOut by decide

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_v0 ↦{fullShare} W main_v0)
      ∗ ((SparseCore.T d).loc main_v1_0 ↦{fullShare} W main_v1_0) ∗ ((SparseCore.T d).loc main_v1_1 ↦{fullShare} W main_v1_1)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_arg2, main_arg3, main_arg4, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The launch element -/

/-- The handshakes' rounds, and the combining region's. -/
def u₀ : UU := (initOf (K (F := F)).hsCells (K (F := F)).hsToks,
  (initOf (Pipeline.cells (pinned (F := F)) phinj) (Pipeline.launchToks (pinned (F := F)) phinj), 1))

/-- The call's payloads, from the launch memory. -/
abbrev Q : (K (F := F)).Pay (nD := nD) (Val := Elt F) (Name := ℕ) (U := UU) :=
  P (flat m) (graphs m) (fun d => m (oLoc d)) (fun d => m (nLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Q m).x q thr) := by
  unfold u₀
  iintro Hu
  ihave H := (ownU_pair (initOf (K (F := F)).hsCells (K (F := F)).hsToks)
    ((initOf (Pipeline.cells (pinned (F := F)) phinj) (Pipeline.launchToks (pinned (F := F)) phinj), 1) : UP × Counters)) $$ Hu
  icases H with ⟨HH, HR⟩
  ihave H := (own_pair_emb (embR : Emb (UP × Counters) 𝕄) (initOf (Pipeline.cells (pinned (F := F)) phinj) (Pipeline.launchToks (pinned (F := F)) phinj)) (1 : Counters)) $$ HR
  icases H with ⟨HP, -⟩
  imod (Pipeline.fund_ghost (pinned (F := F)) (EP (F := F)) phinj) $$ HP with ⟨Hg, Ht⟩
  imodintro
  isplitl [HH]; · iexact HH
  isplitl [Hg Ht]
  · have hg : ∀ Φ : Dev nD → Fin 1 → sProp 𝕄, (bigSep Finset.univ fun c => bigSep Finset.univ fun p => Φ c p) = bigSep Finset.univ fun c => Φ c 0 :=
      fun Φ => bigSep_congr fun c _ => bigSep_univ_of_subsingleton (0 : Fin 1)
    ihave Hg := (Entails.of_eq (hg fun c p => Pipeline.cellsGhost (pinned (F := F)) EP p c)) $$ Hg
    ihave Ht := (Entails.of_eq (hg fun c p => Pipeline.toksInit (pinned (F := F)) EP p c)) $$ Ht
    rw [bigSep_sep']
    isplitl [Hg]
    · iexact Hg
    · iexact Ht
  rw [show (bigSep Finset.univ fun thr : Thread nD τ => bigSep Finset.univ fun q : Fin 1 => (Q m).x q thr) = (iprop(emp) : sProp 𝕄) from
    (bigSep_congr fun _ _ => bigSep_univ_of_subsingleton (0 : Fin 1)).trans (bigSep_emp_const _)]
  iempintro

/-! ## @main on the TensorCore -/

/-- After the call the TensorCore owes nothing, and its waits are within the call's levels. -/
theorem tcSt_one (d : Dev nD) : ∃ R : sProp 𝕄, ((K (F := F)).tcSt EH d 1 : sProp 𝕄) = iprop(Debt (F := F) d ∗ R) := by
  unfold SparseCore.Cfg.tcSt
  rw [(K (F := F)).Otc_end d (Nat.le_refl 1)]
  exact ⟨_, rfl⟩

/-- What @main leaves: the arguments at their launch contents, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{shareDrop fullShare 32} m ((SparseCore.T d).loc main_arg4)) ∗ (SparseCore.T d).loc main_v3 ↦{fullShare} answer m d)

theorem hmain (κ : GSem nD τ sig → ℕ) (d : Dev nD) :
    iprop((K (F := F)).ctx EH (Q m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [unscopedBufs_eq]
  simp only [main, wp_bind, wp_pure]
  iintro ⟨#Hctx, Hst, ⟨Hb, ⟨H0, H1, H2, H3, H4, Hx, Ho, Hn, Hc, Hr⟩, Hts, -⟩, HG⟩
  iapply (wp_hlo_within 𝒱 (SparseCore.T d) none Set.univ (op := opIn) (S := SIn) bufs_in (V := V0 m d)) $$ [Hb H0 Hx]
  · isplitl [Hb]; · iexact Hb
    rw [held_in]
    isplitl [H0]; · iexact H0
    iexact Hx
  iintro ⟨Hb, Hh⟩
  ihave Hh := (Entails.of_eq (held_in (F := F) d _)) $$ Hh
  icases Hh with ⟨H0, Hx⟩
  rw [wp_ret]; imodintro
  ihave H0 := (Entails.of_eq (congrArg (fun f : Buf (Elt F) ((SparseCore.T d).loc main_arg0) => ((SparseCore.T d).loc main_arg0 ↦{fullShare} f : sProp 𝕄)) (in_a0 m d))) $$ H0
  ihave Hx := (Entails.of_eq (congrArg (fun f : Buf (Elt F) ((SparseCore.T d).loc main_v0) => ((SparseCore.T d).loc main_v0 ↦{fullShare} f : sProp 𝕄)) (in_x m d))) $$ Hx
  ihave H := (give (flat m) (graphs m) (fun d => m (oLoc d)) (fun d => m (nLoc d)) d) $$ [Hx H4 Ho Hn]
  · isplitl [Hx]; · iexact Hx
    isplitl [H4]; · iexact H4
    isplitl [Ho] <;> iassumption
  icases H with ⟨Hgo, H4⟩
  iapply ((K (F := F)).wp_run (D (F := F)) 𝒱 (EH := EH) (P := Q m) κ d 0) $$ [Hst Hgo H0 H1 H2 H3 H4 Hc Hr Hb Hts HG]
  isplitr; · iexact Hctx
  isplitl [Hst]; · iexact Hst
  isplitl [Hgo]; · iexact Hgo
  iintro ⟨Hst, Hdn⟩
  ihave Hdn := (take (flat m) (graphs m) (fun d => m (oLoc d)) (fun d => m (nLoc d)) d) $$ Hdn
  icases Hdn with ⟨Ho, Hn⟩
  ihave Hst := (Entails.of_eq (show ((K (F := F)).tcSt EH d ((0 : Fin 1).val + 1) : sProp 𝕄) = iprop(Debt (F := F) d ∗ R) from hR)) $$ Hst
  icases Hst with ⟨HD, HR⟩
  ihave Hlev := (SparseCore.Cfg.ctx_levAts κ) $$ Hctx
  rw [call_lifted]
  iapply (region_wp d (outS (flat m d) (graphs m d)) (outC (graphs m d)) (small m d) (m ((SparseCore.T d).loc main_v2)) _)
  isplitr [Hb Ho Hn H3 Hc HD Hlev HG]; swap
  · isplitl [Hb]; · iexact Hb
    isplitl [Ho Hn H3 Hc HD]
    · isplitl [Ho Hn H3 Hc]
      · isplitl [Ho]; · iexact Ho
        isplitl [Hn]; · iexact Hn
        isplitl [H3]; · iexact H3
        iexact Hc
      iexact HD
    isplitl [Hlev]; · iexact Hlev
    iexact HG
  iintro ⟨Hb, ⟨-, -, H3, Hc⟩, HD⟩
  iapply (wp_hlo_within 𝒱 (SparseCore.T d) none Set.univ (op := opOut) (S := SOut) bufs_out (V := V1 m d)) $$ [Hb Hc Hr]
  · isplitl [Hb]; · iexact Hb
    rw [held_out, V1_c, V1_r]
    isplitl [Hc]; · iexact Hc
    iexact Hr
  iintro ⟨Hb, Hh⟩
  ihave Hh := (Entails.of_eq (held_out (F := F) d _)) $$ Hh
  icases Hh with ⟨-, Hr⟩
  ihave Hr := (Entails.of_eq (congrArg (fun f : Buf (Elt F) ((SparseCore.T d).loc main_v3) => ((SparseCore.T d).loc main_v3 ↦{fullShare} f : sProp 𝕄)) (out_r m d))) $$ Hr
  rw [wp_ret]; imodintro; imodintro
  isplitl [HD HR]
  · rw [hR]; isplitl [HD] <;> iassumption
  isplitr [Hb Hts]
  · isplitl [H0]; · iexact H0
    isplitl [H1]; · iexact H1
    isplitl [H2]; · iexact H2
    isplitl [H3]; · iexact H3
    isplitl [H4]; · iexact H4
    iexact Hr
  isplitl [Hb] <;> iassumption

/-! ## The run -/

/-- What a terminal state is found to be. -/
abbrev Left (d : Dev nD) (s' : MemSt nD τ sig (Elt F)) : Prop :=
  s'.mem ((SparseCore.T d).loc main_arg0) = m ((SparseCore.T d).loc main_arg0) ∧ s'.mem ((SparseCore.T d).loc main_arg1) = m ((SparseCore.T d).loc main_arg1)
    ∧ s'.mem ((SparseCore.T d).loc main_arg2) = m ((SparseCore.T d).loc main_arg2) ∧ s'.mem ((SparseCore.T d).loc main_arg3) = m ((SparseCore.T d).loc main_arg3)
    ∧ s'.mem ((SparseCore.T d).loc main_arg4) = m ((SparseCore.T d).loc main_arg4) ∧ s'.mem ((SparseCore.T d).loc main_v3) = answer m d

set_option maxRecDepth 16384 in
theorem hfin (d : Dev nD) (s' : Phys nD τ sig (Elt F)) : iprop(FIN m d ∗ (SI s' : sProp 𝕄)) ⊢ ⌜Left m d s'.mem⌝ := by
  iintro ⟨⟨H0, H1, H2, H3, H4, Hr⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := shareDrop fullShare 32) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_v3) (I := Finset.univ) (q := fullShare) (f := answer m d))) $$ [HSI Hr]
  · isplitl [HSI] <;> iassumption
  icases H with ⟨%h5, -, -⟩
  ipureintro
  exact ⟨funext fun i => h0 i (Finset.mem_univ _), funext fun i => h1 i (Finset.mem_univ _), funext fun i => h2 i (Finset.mem_univ _),
    funext fun i => h3 i (Finset.mem_univ _), funext fun i => h4 i (Finset.mem_univ _), funext fun i => h5 i (Finset.mem_univ _)⟩

/-- The whole run: nothing left owed, the arguments as they were, the result in its buffer. -/
theorem run_main [∀ e, Nonempty (Elt F e)] (hB : ∀ d n, elemB (graphs m d) n < 64) :
    θ_run (Cert.KernelIdeal.defs (F := F)) (Cert.KernelIdeal.threads (F := F)) ⟨m, fun _ => 0, ρ⟩
      fun r => (∀ d : Dev nD, Left m d r.2) ∧ r.2.sem = fun _ => 0 :=
  SparseCore.Cfg.θ_run_sc_quiescent (K := K (F := F)) (D := D (F := F)) (𝒱 := 𝒱) (EH := EH) (P := Q m) (A := ∅) facts v₀
    (fun q hq => match q with | 0 => nomatch hq) (fun q _ => match q with | 0 => tileObl (flat m) (graphs m) (fun d => m (oLoc d)) (fun d => m (nLoc d)) hB)
    (fun q _ => match q with | 0 => SparseCore.Cfg.VecSplit.of_plain (vecSplit (flat m) (graphs m) (fun d => m (oLoc d)) (fun d => m (nLoc d))))
    m ρ main (G (F := F)) (FIN m) (u₀ (F := F)) (sep_elim_left.trans (hu₀ m)) (hmain m ρ) (fun d s' => Left m d s'.mem) (hfin m) _ (fun _ h hz => ⟨h, hz⟩)

end Cert.Proof.Launch

end
-- ==== Proof.Pre.lean ====
/-
  What the precondition says of the graph numbers: read as words, every one is below 64.
-/
module

public import proofs.«01_k».proof.Proof.Branch
public import proofs.«01_k».proof.Proof.Gen.Pre_batch_in_graphs
public import Idealize.ShloMosaic.Lib.ReduceAll

@[expose] public section

noncomputable section

namespace Cert.Proof.Pre

open Idealize.ShloMosaic
open Cert.Proof.Branch

variable {F : FTy → Type} [FloatOps F]

theorem ofBool_one (b : Bool) : BitVec.ofBool b = 1#1 ↔ b = true := by cases b <;> decide

/-- The predicate, all ones, bounds every graph number. -/
theorem below_64 (a0 : FVec F Cert.Pre_batch_in_graphs.S10000x128 .f32) (a1 : IVec Cert.Pre_batch_in_graphs.S2x320000 32)
    (a2 : FVec F Cert.Pre_batch_in_graphs.S320000x4 .f32) (a3 : FVec F Cert.Pre_batch_in_graphs.S64x8 .f32) (b : IVec Cert.Pre_batch_in_graphs.S10000 32)
    (h : Cert.Pre_batch_in_graphs.fn a0 a1 a2 a3 b = fun _ => 1#1) (j : Cert.Pre_batch_in_graphs.S10000.Idx) : (b j).toNat < 64 := by
  have h0 := congrFun h (fun | ⟨n, hn⟩ => absurd hn (Nat.not_lt_zero n))
  obtain ⟨h1, h2⟩ := IntOp.andi_eq_one.1 h0
  haveI : Subsingleton Cert.Pre_batch_in_graphs.S_.Idx := ⟨fun x y => funext fun k => absurd k.isLt (Nat.not_lt_zero _)⟩
  have e1 := Host.reduce_andi_all _ _ _ _ _ h1 j
  have e2 := Host.reduce_andi_all _ _ _ _ _ h2 j
  replace e1 : IntOp.cmpi .sge (b j) (0#32) = 1#1 := e1
  replace e2 : IntOp.cmpi .slt (b j) (64#32) = 1#1 := e2
  simp only [IntOp.cmpi, ofBool_one, BitVec.sle_eq_decide, BitVec.slt_eq_decide, decide_eq_true_eq, BitVec.toInt_eq_toNat_cond,
    BitVec.toNat_ofNat, Nat.reducePow, Nat.reduceMod] at e1 e2
  have := (b j).isLt
  omega

/-- The same, of the words by number. -/
theorem elemB_lt (a0 : FVec F Cert.Pre_batch_in_graphs.S10000x128 .f32) (a1 : IVec Cert.Pre_batch_in_graphs.S2x320000 32)
    (a2 : FVec F Cert.Pre_batch_in_graphs.S320000x4 .f32) (a3 : FVec F Cert.Pre_batch_in_graphs.S64x8 .f32) (b : IVec Cert.Pre_batch_in_graphs.S10000 32)
    (h : Cert.Pre_batch_in_graphs.fn a0 a1 a2 a3 b = fun _ => 1#1) (n : ℕ) : elemB (F := F) b n < 64 := by
  unfold elemB
  split
  · exact below_64 a0 a1 a2 a3 b h _
  · omega

end Cert.Proof.Pre

end
-- ==== Proof.Frames.lean ====
/-
  The frames: each program runs, its arguments end as they were, every counter ends at zero.
-/
module

public import proofs.«01_k».proof.Defs
public import proofs.«01_k».proof.Proof.Launch
public import proofs.«01_k».proof.Proof.Pre
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof.Frames

open Idealize.ShloMosaic Idealize.SL.Sem
open Cert.Proof.Launch

open Cert.KernelIdeal in
/-- The run with what is said of the arguments alone, over any float values. -/
theorem args_run {F : FTy → Type} [FloatOps F] [∀ e, Nonempty (Elt F e)] (m : (ℓ : Loc nD τ sig) → Buf (Elt F) ℓ) (g : Dev nD → PrngReg)
    (hB : ∀ d n, Cert.Proof.Branch.elemB (graphs m d) n < 64) :
    θ_run (defs (F := F)) (threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩)
    (run_main m g hB)

section
attribute [local instance] Cert.Kernel.Gen.facts Cert.KernelIdeal.Gen.facts

/-- The two programs have one table of kernel bodies; -/
theorem bodies_eq : (Cert.Kernel.defs₀ (F := Bits)) = (Cert.KernelIdeal.defs₀ (F := Bits)) := by
  funext pr ℓ a
  match pr, ℓ with
  | .tc, 0 => rfl
  | .tc, 1 => rfl
  | .scScalar c, 0 => rfl
  | .scScalar c, 1 => rfl
  | .scVector c s, 0 => rfl
  | .scVector c s, 1 => rfl

/-- so one table of bodies with the calls'. -/
theorem defs_eq : (Cert.Kernel.defs (F := Bits)) = (Cert.KernelIdeal.defs (F := Bits)) :=
  congrArg (fun D => (Cert.KernelIdeal.sc (F := Bits)).defs (Pipeline.defs Cert.KernelIdeal.pcfgs D)) bodies_eq

theorem frame_kernel : @Cert.quiescent_Kernel Cert.Kernel.Gen.facts Cert.Pre_batch_in_graphs.Gen.facts := fun m g hp => by
  rw [defs_eq]
  exact args_run (F := Bits) m g fun d n => Pre.elemB_lt _ _ _ _ _ (hp d) n

end

theorem frame_kernelIdeal : @Cert.quiescent_KernelIdeal Cert.KernelIdeal.Gen.facts Cert.Pre_batch_in_graphs.Gen.facts := fun m g hp =>
  args_run (F := Ideal) m g fun d n => Pre.elemB_lt _ _ _ _ _ (hp d) n

theorem frame_reference : @Cert.quiescent_ReferenceIdeal Cert.ReferenceIdeal.Gen.facts := fun m g _ =>
  (θ_run Cert.ReferenceIdeal.defs _ _).mono (fun _ h => ⟨fun c => (h c).2, sem_eq_zero_of_no_sems rfl _⟩)
    (Cert.ReferenceIdeal.Value.run (F := Ideal) m g)

theorem frame_reference_pre : @Cert.quiescent_ReferenceIdeal_pre_batch_in_graphs Cert.ReferenceIdeal.Gen.facts Cert.Pre_batch_in_graphs.Gen.facts :=
  fun m g _ => frame_reference m g trivial

end Cert.Proof.Frames

end
-- ==== Proof.Sums.lean ====
/-
  What the tiles compute, over the extended reals: a lane's walk through a row visits every column once, so its two running
  sums add up to the row's sum; a table's column adds up the rows of a graph's nodes; and the 32 tiles' nodes are the 10000.
  With it, division by a count of at least one goes through a sum.
-/
module

public import proofs.«01_k».proof.Proof.Tile
public import Idealize.ShloMosaic.Lib.IdealHost
public import Idealize.ShloMosaic.PureOps.Ideal.Laws

@[expose] public section

noncomputable section

namespace Cert.Proof.Sums

open Idealize.ShloMosaic
open Cert.KernelIdeal Cert.KernelIdeal.Gen Cert.Proof.Model
open Finset

theorem zero_eq : (zero : Ideal .f32) = (0 : EReal) := Ideal.ofBits_zero_f32
theorem one_eq : (one : Ideal .f32) = (1 : EReal) := Ideal.ofBits_one_f32

/-! ## Sums over numbers below a product -/

/-- A sum below `a * b` is a sum of `a` sums of `b`. -/
theorem sum_blocks (f : ℕ → EReal) (b : ℕ) : ∀ a : ℕ, ∑ i ∈ range (a * b), f i = ∑ i ∈ range a, ∑ j ∈ range b, f (b * i + j)
  | 0 => by simp
  | a + 1 => by
    rw [Nat.succ_mul, sum_range_add, sum_blocks f b a, sum_range_succ, Nat.mul_comm b a]

/-- Xor with a number of seven bits permutes the numbers below 128. -/
theorem sum_xor (f : ℕ → EReal) {l : ℕ} (hl : l < 128) : ∑ c ∈ range 128, f (l ^^^ c) = ∑ c ∈ range 128, f c := by
  have h : ∀ c ∈ range 128, l ^^^ c ∈ range 128 := fun c hc => mem_range.2 (xor_lt hl (mem_range.1 hc))
  have hi : ∀ c, l ^^^ (l ^^^ c) = c := fun c => by rw [← Nat.xor_assoc, Nat.xor_self, Nat.zero_xor]
  exact sum_nbij' (fun c => l ^^^ c) (fun c => l ^^^ c) h h (fun c _ => hi c) (fun c _ => hi c) (fun _ _ => rfl)

/-- Three low bits and the bits above them do not meet. -/
theorem xor_eight (k j : ℕ) (hk : k < 8) (hj : j < 16) : k ^^^ (8 * j) = 8 * j + k := by
  have : ∀ (k : Fin 8) (j : Fin 16), k.val ^^^ (8 * j.val) = 8 * j.val + k.val := by decide
  exact this ⟨k, hk⟩ ⟨j, hj⟩

/-! ## A row -/

theorem acc0_eq (X : ℕ → EReal) (t l n : ℕ) : (acc0 (F := Ideal) X t l n : EReal)
    = ∑ j ∈ range n, (X (at' t l 0 j) + X (at' t l 2 j) + X (at' t l 4 j) + X (at' t l 6 j)) := by
  induction n with
  | zero => rw [range_zero, sum_empty]; exact zero_eq
  | succ n ih =>
    rw [sum_range_succ, ← ih]
    show _ + _ + _ + _ + _ = (_ : EReal)
    simp only [add_assoc]

theorem acc1_eq (X : ℕ → EReal) (t l n : ℕ) : (acc1 (F := Ideal) X t l n : EReal)
    = ∑ j ∈ range n, (X (at' t l 1 j) + X (at' t l 3 j) + X (at' t l 5 j) + X (at' t l 7 j)) := by
  induction n with
  | zero => rw [range_zero, sum_empty]; exact zero_eq
  | succ n ih =>
    rw [sum_range_succ, ← ih]
    show _ + _ + _ + _ + _ = (_ : EReal)
    simp only [add_assoc]

/-- A lane's two sums add up to its row's sum. -/
theorem row_eq (X : ℕ → EReal) (t l : ℕ) (hl : l < 16) :
    (row (F := Ideal) X t l : EReal) = ∑ c ∈ range 128, X (128 * (16 * t + l) + c) := by
  show (acc0 (F := Ideal) X t l 16 : EReal) + acc1 (F := Ideal) X t l 16 = _
  rw [acc0_eq, acc1_eq, ← sum_add_distrib, ← sum_xor (fun c => X (128 * (16 * t + l) + c)) (show l < 128 by omega),
    show (128 : ℕ) = 16 * 8 from rfl, sum_blocks]
  refine sum_congr rfl fun j hj => ?_
  have hj := mem_range.1 hj
  have e : ∀ k, k < 8 → X (at' t l k j) = X (16 * 8 * (16 * t + l) + (l ^^^ (8 * j + k))) := fun k hk => by
    unfold at'
    rw [Nat.xor_assoc, xor_eight k j hk hj]
    congr 1; omega
  rw [e 0 (by omega), e 1 (by omega), e 2 (by omega), e 3 (by omega), e 4 (by omega), e 5 (by omega), e 6 (by omega),
    e 7 (by omega)]
  simp only [sum_range_succ, range_zero, sum_empty, zero_add]
  ac_rfl

/-! ## A table -/

theorem table_eq (B : ℕ → ℕ) (v : ℕ → ℕ → EReal) (l g n : ℕ) : (table (F := Ideal) B v l g n : EReal)
    = ∑ t ∈ range n, if B (16 * t + l) = g then v t l else 0 := by
  induction n with
  | zero => rw [range_zero, sum_empty]; exact zero_eq
  | succ n ih =>
    rw [sum_range_succ, ← ih]
    show (if _ then _ else _ : EReal) = _
    by_cases h : B (16 * n + l) = g
    · rw [if_pos h, if_pos h]; rfl
    · rw [if_neg h, if_neg h, add_zero]

theorem col_eq (f : ℕ → EReal) (n : ℕ) : (col (F := Ideal) f n : EReal) = ∑ l ∈ range (n + 1), f l := by
  induction n with
  | zero => rw [sum_range_one]; rfl
  | succ n ih => rw [sum_range_succ, ← ih]; rfl

/-- A tile's column of sums: its nodes of the graph, each row summed. -/
theorem sumsOf_eq (X : ℕ → EReal) (B : ℕ → ℕ) (n g : ℕ) : (sumsOf (F := Ideal) X B n g : EReal)
    = ∑ i ∈ range (n * 16), if B i = g then ∑ c ∈ range 128, X (128 * i + c) else 0 := by
  rw [sum_blocks, sum_comm]
  refine (col_eq _ 15).trans (sum_congr rfl fun l hl => (table_eq B _ l g n).trans (sum_congr rfl fun t _ => ?_))
  rw [row_eq X t l (mem_range.1 hl)]

/-- A tile's column of counts: its nodes of the graph, one for each. -/
theorem cntsOf_eq (B : ℕ → ℕ) (n g : ℕ) : (cntsOf (F := Ideal) B n g : EReal)
    = ∑ i ∈ range (n * 16), if B i = g then 1 else 0 := by
  rw [sum_blocks, sum_comm]
  refine (col_eq _ 15).trans (sum_congr rfl fun l _ => (table_eq B _ l g n).trans (sum_congr rfl fun t _ => ?_))
  rw [one_eq]

/-! ## The tiles together -/

/-- The nodes of the 32 tiles are the 10000 nodes. -/
theorem tiles_eq (f : ℕ → EReal) :
    ∑ w : Fin 32, ∑ i ∈ range ((if w.val < 31 then 20 else 5) * 16), f (320 * w.val + i) = ∑ n ∈ range 10000, f n := by
  rw [← sum_range (fun w => ∑ i ∈ range ((if w < 31 then 20 else 5) * 16), f (320 * w + i)),
    show (10000 : ℕ) = 31 * 320 + 80 from rfl, sum_range_add, sum_blocks, sum_range_succ]
  refine congr (congrArg _ (sum_congr rfl fun w hw => ?_)) ?_
  · rw [if_pos (mem_range.1 hw)]
  · rfl

/-- The same for what the tiles hold, by the nodes' numbers. -/
theorem tiles_of (T : Fin 32 → EReal) (f : ℕ → EReal) (y : Fin 10000 → EReal)
    (hT : ∀ w, T w = ∑ i ∈ range ((if w.val < 31 then 20 else 5) * 16), f (320 * w.val + i)) (hy : ∀ n, f n.val = y n) :
    ∑ w : Fin 32, T w = ∑ n : Fin 10000, y n := by
  rw [sum_congr rfl fun w _ => hT w, tiles_eq, sum_range, sum_congr rfl fun n _ => hy n]

/-! ## Counts -/

/-- A count is a natural number. -/
theorem count_eq {ι : Type} [DecidableEq ι] (p : ι → Prop) [DecidablePred p] (s : Finset ι) : (∑ n ∈ s, if p n then (1 : EReal) else 0) = (((s.filter p).card : ℝ) : EReal) := by
  induction s using Finset.induction_on with
  | empty => simp
  | insert a s ha ih =>
    rw [sum_insert ha, ih, filter_insert]
    by_cases h : p a
    · rw [if_pos h, if_pos h, card_insert_of_notMem (fun hm => ha (mem_of_mem_filter _ hm))]
      push_cast; rw [add_comm]
    · rw [if_neg h, if_neg h, zero_add]

/-- The greater of a natural number and one, as a real number of at least one. -/
theorem count_max (n : ℕ) : ∃ r : ℝ, 1 ≤ r ∧ max (((n : ℝ)) : EReal) 1 = (r : EReal) :=
  ⟨max (n : ℝ) 1, le_max_right _ _, (EReal.coe_strictMono.monotone.map_max (a := (n : ℝ)) (b := 1)).symm⟩

/-- Division by a real number of at least one goes through a sum. -/
theorem div_sum {ι : Type} (s : Finset ι) (f : ι → EReal) {r : ℝ} (hr : 1 ≤ r) :
    ∑ i ∈ s, Ideal.div (f i) (r : EReal) = Ideal.div (∑ i ∈ s, f i) (r : EReal) := by
  have h0 : r ≠ 0 := by intro h; rw [h] at hr; exact absurd hr (not_le.2 zero_lt_one)
  simp only [Ideal.div_coe h0]
  have hp : (0 : EReal) ≤ ((1 / r : ℝ) : EReal) := by
    exact_mod_cast div_nonneg zero_le_one (zero_le_one.trans hr)
  induction s using Finset.cons_induction with
  | empty => simp
  | cons a s ha ih => rw [sum_cons, sum_cons, ih, EReal.right_distrib_of_nonneg_of_ne_top hp (EReal.coe_ne_top _)]

end Cert.Proof.Sums
-- ==== Proof.RefValue.lean ====
/-
  The reference's value at a graph, over the extended reals: the graph's small table row and the columns of its nodes'
  mean, summed and divided by their number.
-/
module

public import proofs.«01_k».proof.Proof.Gen.ReferenceIdeal
public import Idealize.ShloMosaic.Lib.Pointwise
public import Idealize.ShloMosaic.Lib.IdealHost
public import Idealize.ShloMosaic.PureOps.Ideal.Laws

@[expose] public section

noncomputable section

namespace Cert.Proof.RefValue

open Idealize.ShloMosaic
open Cert.ReferenceIdeal Cert.ReferenceIdeal.Gen
open Finset

/-! ## Where an update lands -/

abbrev dS : ScatterDims S64x128 S10000x1 S10000x128 := scatter_S64x128_S10000x1_S10000x128_1_0_0_1
abbrev dC : ScatterDims S64 S10000x1 S10000 := scatter_S64_S10000x1_S10000_n_0_0_1

theorem startS0 (j : S10000x128.Idx) (idx : IVec S10000x1 32) : dS.start j idx 0 = (idx (ix2 (j 0) 0)).toInt := by
  unfold ScatterDims.start
  rw [dif_pos (by decide)]
  congr 2
  funext b
  match b with
  | 0 => rfl
  | 1 => rfl
theorem startS1 (j : S10000x128.Idx) (idx : IVec S10000x1 32) : dS.start j idx 1 = 0 := by
  unfold ScatterDims.start
  rw [dif_neg (by decide)]
theorem windowS0 (j : S10000x128.Idx) : dS.window j 0 = 0 := by
  unfold ScatterDims.window
  rw [dif_neg (by decide)]
theorem windowS1 (j : S10000x128.Idx) : dS.window j 1 = (j 1).val := by
  unfold ScatterDims.window
  rw [dif_pos (by decide)]
  rfl

/-- A node's row is added to the row its graph word names, column by column. -/
theorem landsS (j : S10000x128.Idx) (idx : IVec S10000x1 32) (i : S64x128.Idx) :
    dS.resultIdx? j idx = some i ↔ (idx (ix2 (j 0) 0)).toInt = ((i 0).val : ℤ) ∧ (j 1).val = (i 1).val := by
  unfold ScatterDims.resultIdx?
  have i0 := (i 0).isLt
  have j1 := (j 1).isLt
  constructor
  · intro h
    by_cases hc : ∀ a, 0 ≤ dS.start j idx a + dS.window j a ∧ dS.start j idx a + dS.window j a < S64x128.size a
    · rw [dif_pos hc] at h
      have h := Option.some.inj h
      have h0 := congrArg Fin.val (congrFun h 0)
      have h1 := congrArg Fin.val (congrFun h 1)
      have c0 := hc 0
      simp only [startS0, startS1, windowS0, windowS1] at h0 h1 c0
      constructor <;> omega
    · rw [dif_neg hc] at h; exact absurd h (by simp)
  · rintro ⟨h0, h1⟩
    have hc : ∀ a, 0 ≤ dS.start j idx a + dS.window j a ∧ dS.start j idx a + dS.window j a < S64x128.size a := by
      intro a
      match a with
      | 0 =>
        have : (S64x128.size 0 : ℤ) = 64 := rfl
        have i0' : (i 0).val < 64 := i0
        rw [startS0, windowS0]; omega
      | 1 =>
        have : (S64x128.size 1 : ℤ) = 128 := rfl
        have j1' : (j 1).val < 128 := j1
        rw [startS1, windowS1]; omega
    rw [dif_pos hc]
    congr 1
    funext a
    apply Fin.ext
    match a with
    | 0 => show (dS.start j idx 0 + dS.window j 0).toNat = _; rw [startS0, windowS0]; omega
    | 1 => show (dS.start j idx 1 + dS.window j 1).toNat = _; rw [startS1, windowS1]; omega

theorem startC0 (j : S10000.Idx) (idx : IVec S10000x1 32) : dC.start j idx 0 = (idx (ix2 (j 0) 0)).toInt := by
  unfold ScatterDims.start
  rw [dif_pos (by decide)]
  congr 2
  funext b
  match b with
  | 0 => rfl
  | 1 => rfl
theorem windowC0 (j : S10000.Idx) : dC.window j 0 = 0 := by
  unfold ScatterDims.window
  rw [dif_neg (by decide)]

/-- A node's one is added to the count its graph word names. -/
theorem landsC (j : S10000.Idx) (idx : IVec S10000x1 32) (i : S64.Idx) :
    dC.resultIdx? j idx = some i ↔ (idx (ix2 (j 0) 0)).toInt = ((i 0).val : ℤ) := by
  unfold ScatterDims.resultIdx?
  have i0 := (i 0).isLt
  constructor
  · intro h
    by_cases hc : ∀ a, 0 ≤ dC.start j idx a + dC.window j a ∧ dC.start j idx a + dC.window j a < S64.size a
    · rw [dif_pos hc] at h
      have h := Option.some.inj h
      have h0 := congrArg Fin.val (congrFun h 0)
      have c0 := hc 0
      simp only [startC0, windowC0] at h0 c0
      omega
    · rw [dif_neg hc] at h; exact absurd h (by simp)
  · intro h0
    have hc : ∀ a, 0 ≤ dC.start j idx a + dC.window j a ∧ dC.start j idx a + dC.window j a < S64.size a := by
      intro a
      match a with
      | 0 =>
        have : (S64.size 0 : ℤ) = 64 := rfl
        have i0' : (i 0).val < 64 := i0
        rw [startC0, windowC0]; omega
    rw [dif_pos hc]
    congr 1
    funext a
    apply Fin.ext
    match a with
    | 0 => show (dC.start j idx 0 + dC.window j 0).toNat = _; rw [startC0, windowC0]; omega

/-- A word that reads signed as a number below 64 reads unsigned as that number, and the other way round. -/
theorem word_eq (w : BitVec 32) (g : ℕ) (hg : g < 64) : w.toInt = (g : ℤ) ↔ w.toNat = g := by
  rw [BitVec.toInt_eq_toNat_cond]
  have := w.isLt
  split <;> omega

/-! ## The sums -/

/-- The column of graph words, one for each node. -/
theorem words_at (b : IVec S10000 32) (n : Fin 10000) :
    broadcastInDim S10000x1 ![0] bcast_S10000_S10000x1_0 b (ix2 n 0) = b (ix1 n) := by
  unfold broadcastInDim
  congr 1
  funext a
  match a with
  | 0 => rfl

/-- The reference's sums: column `c` of graph `g` adds the column up over the graph's nodes. -/
theorem sums_at (z : FVec Ideal S64x128 .f32) (b : IVec S10000 32) (x : FVec Ideal S10000x128 .f32) (g : Fin 64) (c : Fin 128) :
    Host.scatterAdd dS z (broadcastInDim S10000x1 ![0] bcast_S10000_S10000x1_0 b) x (ix2 g c)
      = (z (ix2 g c) : EReal) + ∑ n : Fin 10000, if (b (ix1 n)).toNat = g.val then (x (ix2 n c) : EReal) else 0 := by
  show Ideal.hostScatterAdd dS z _ x (ix2 g c) = _
  unfold Ideal.hostScatterAdd
  refine congrArg (fun s : EReal => (z (ix2 g c) : EReal) + s) ?_
  rw [sum_filter, sum_idx2]
  refine sum_congr rfl fun n _ => ?_
  rw [sum_eq_single c]
  · refine if_congr ?_ rfl rfl
    rw [landsS]
    show (broadcastInDim S10000x1 ![0] bcast_S10000_S10000x1_0 b (ix2 n 0)).toInt = (g.val : ℤ) ∧ c.val = c.val ↔ _
    rw [words_at, word_eq _ _ g.isLt]
    exact and_iff_left rfl
  · intro c' _ hc
    rw [if_neg]
    rw [landsS]
    rintro ⟨_, h⟩
    exact hc (Fin.ext h)
  · intro h; exact absurd (mem_univ c) h

/-- The reference's counts. -/
theorem counts_at (z : FVec Ideal S64 .f32) (b : IVec S10000 32) (x : FVec Ideal S10000 .f32) (g : Fin 64) :
    Host.scatterAdd dC z (broadcastInDim S10000x1 ![0] bcast_S10000_S10000x1_0 b) x (ix1 g)
      = (z (ix1 g) : EReal) + ∑ n : Fin 10000, if (b (ix1 n)).toNat = g.val then (x (ix1 n) : EReal) else 0 := by
  show Ideal.hostScatterAdd dC z _ x (ix1 g) = _
  unfold Ideal.hostScatterAdd
  refine congrArg (fun s : EReal => (z (ix1 g) : EReal) + s) ?_
  rw [sum_filter, sum_idx1]
  refine sum_congr rfl fun n _ => ?_
  refine if_congr ?_ rfl rfl
  rw [landsC]
  show (broadcastInDim S10000x1 ![0] bcast_S10000_S10000x1_0 b (ix2 n 0)).toInt = (g.val : ℤ) ↔ _
  rw [words_at, word_eq _ _ g.isLt]

/-! ## The value -/

/-- What the reference makes of its sums, its counts and its small table. -/
def finish (A : FVec Ideal S64x128 .f32) (C : FVec Ideal S64 .f32) (u : FVec Ideal S64x8 .f32) : FVec Ideal S64 .f32 :=
  Host.divf (Host.reduceAdd (concatenate S64x136 1 [⟨S64x8, u⟩, ⟨S64x128, (Host.divf A (broadcastInDim S64x128 ![0, 1] bcast_S64x1_S64x128_0_1 (broadcastInDim S64x1 ![0] bcast_S64_S64x1_0 (maximumf C (broadcastInDim S64 ![] bcast_S_S64 (constant S_ .f32 0x3F800000#32))))))⟩] concatenates_S64x8_S64x128_S64x136_d1) (constant S_ .f32 0x00000000#32) reducesTo_S64x136_S64_d1 h_S_) (broadcastInDim S64 ![] bcast_S_S64 (constant S_ .f32 0x43080000#32))

set_option maxRecDepth 16384 in
theorem finish_at (A : FVec Ideal S64x128 .f32) (C : FVec Ideal S64 .f32) (u : FVec Ideal S64x8 .f32) (g : Fin 64) :
    (finish A C u (ix1 g) : EReal)
      = Ideal.div ((∑ k : Fin 8, (u (ix2 g k) : EReal)) + ∑ c : Fin 128, Ideal.div (A (ix2 g c)) (max (C (ix1 g) : EReal) 1))
          (Ideal.ofBits .f32 0x43080000#32) := by
  pointwise [finish]

/-- The same, of sums and counts known at the graph. -/
theorem finish_of (A : FVec Ideal S64x128 .f32) (C : FVec Ideal S64 .f32) (u : FVec Ideal S64x8 .f32) (g : Fin 64)
    (a : Fin 128 → EReal) (n : EReal) (ha : ∀ c, (A (ix2 g c) : EReal) = a c) (hn : (C (ix1 g) : EReal) = n) :
    (finish A C u (ix1 g) : EReal)
      = Ideal.div ((∑ k : Fin 8, (u (ix2 g k) : EReal)) + ∑ c : Fin 128, Ideal.div (a c) (max n 1)) (Ideal.ofBits .f32 0x43080000#32) := by
  rw [finish_at, hn]
  obtain rfl : a = fun c => (A (ix2 g c) : EReal) := funext fun c => (ha c).symm
  rfl

/-- The reference's result, of its node table, its small table and the nodes' graphs. -/
def result (x : FVec Ideal S10000x128 .f32) (u : FVec Ideal S64x8 .f32) (b : IVec S10000 32) : FVec Ideal S64 .f32 :=
  finish (Host.scatterAdd dS (broadcastInDim S64x128 ![] bcast_S_S64x128 (constant S_ .f32 0x00000000#32)) (broadcastInDim S10000x1 ![0] bcast_S10000_S10000x1_0 b) x)
    (Host.scatterAdd dC (broadcastInDim S64 ![] bcast_S_S64 (constant S_ .f32 0x00000000#32)) (broadcastInDim S10000x1 ![0] bcast_S10000_S10000x1_0 b) (broadcastInDim S10000 ![] bcast_S_S10000 (constant S_ .f32 0x3F800000#32))) u

theorem result_at (x : FVec Ideal S10000x128 .f32) (u : FVec Ideal S64x8 .f32) (b : IVec S10000 32) (g : Fin 64) :
    (result x u b (ix1 g) : EReal)
      = Ideal.div ((∑ k : Fin 8, (u (ix2 g k) : EReal)) + ∑ c : Fin 128,
          Ideal.div (∑ n : Fin 10000, if (b (ix1 n)).toNat = g.val then (x (ix2 n c) : EReal) else 0)
            (max (∑ n : Fin 10000, if (b (ix1 n)).toNat = g.val then (1 : EReal) else 0) 1)) (Ideal.ofBits .f32 0x43080000#32) := by
  have z0 : ∀ c, (broadcastInDim S64x128 ![] bcast_S_S64x128 (constant S_ .f32 0x00000000#32) : FVec Ideal S64x128 .f32) (ix2 g c) = (0 : EReal) :=
    fun c => Ideal.ofBits_zero_f32
  have z1 : (broadcastInDim S64 ![] bcast_S_S64 (constant S_ .f32 0x00000000#32) : FVec Ideal S64 .f32) (ix1 g) = (0 : EReal) :=
    Ideal.ofBits_zero_f32
  have o1 : ∀ n, (broadcastInDim S10000 ![] bcast_S_S10000 (constant S_ .f32 0x3F800000#32) : FVec Ideal S10000 .f32) (ix1 n) = (1 : EReal) :=
    fun n => Ideal.ofBits_one_f32
  have hs : ∀ c, Host.scatterAdd (F := Ideal) (φ := .f32) dS (broadcastInDim S64x128 ![] bcast_S_S64x128 (constant S_ .f32 0x00000000#32)) (broadcastInDim S10000x1 ![0] bcast_S10000_S10000x1_0 b) x (ix2 g c)
      = ∑ n : Fin 10000, if (b (ix1 n)).toNat = g.val then (x (ix2 n c) : EReal) else 0 := fun c => by
    rw [sums_at, z0, zero_add]
  have hc : Host.scatterAdd (F := Ideal) (φ := .f32) dC (broadcastInDim S64 ![] bcast_S_S64 (constant S_ .f32 0x00000000#32)) (broadcastInDim S10000x1 ![0] bcast_S10000_S10000x1_0 b) (broadcastInDim S10000 ![] bcast_S_S10000 (constant S_ .f32 0x3F800000#32)) (ix1 g)
      = ∑ n : Fin 10000, if (b (ix1 n)).toNat = g.val then (1 : EReal) else 0 := by
    rw [counts_at, z1, zero_add]
    exact sum_congr rfl fun n _ => by rw [o1 n]
  exact finish_of _ _ u g _ _ hs hc

end Cert.Proof.RefValue
-- ==== Proof.KernelValue.lean ====
/-
  The kernel's value at a graph, over the extended reals: the two tiles' tables summed over the tiles are the graph's
  sums and counts, so the combining kernel's result is the reference's.
-/
module

public import proofs.«01_k».proof.Proof.Sums
public import proofs.«01_k».proof.Proof.Combine
public import proofs.«01_k».proof.Proof.RefValue

@[expose] public section

noncomputable section

namespace Cert.Proof.KernelValue

open Idealize.ShloMosaic
open Cert.KernelIdeal Cert.KernelIdeal.Gen Cert.Proof.Model Cert.Proof.Branch Cert.Proof.Tile Cert.Proof.Sums
open Finset

set_option maxRecDepth 16384 in
/-- What the combining kernel makes of the two tables and the small one. -/
theorem comb_at (o n : FVec Ideal S32x64 .f32) (u : FVec Ideal S64x8 .f32) (g : Fin 64) :
    (Combine.comb (F := Ideal) o n u (ix2 0 g) : EReal)
      = Ideal.div ((∑ k : Fin 8, (u (ix2 g k) : EReal)) + Ideal.div (∑ w : Fin 32, (o (ix2 w g) : EReal)) (max (∑ w : Fin 32, (n (ix2 w g) : EReal)) 1))
          (Ideal.ofBits .f32 0x43080000#32) := by
  pointwise [Combine.comb, k1_pay1]

/-- The same, of tables whose sums over the tiles are known at the graph. -/
theorem comb_of (o n : FVec Ideal S32x64 .f32) (u : FVec Ideal S64x8 .f32) (g : Fin 64) (s k : EReal)
    (hs : ∑ w : Fin 32, (o (ix2 w g) : EReal) = s) (hk : ∑ w : Fin 32, (n (ix2 w g) : EReal) = k) :
    (Combine.comb (F := Ideal) o n u (ix2 0 g) : EReal)
      = Ideal.div ((∑ k : Fin 8, (u (ix2 g k) : EReal)) + Ideal.div s (max k 1)) (Ideal.ofBits .f32 0x43080000#32) := by
  rw [comb_at, hs, hk]

theorem elemB_at (b : IVec S10000 32) (n : Fin 10000) : elemB (F := Ideal) b n.val = (b (ix1 n)).toNat := by
  unfold elemB; rw [dif_pos n.isLt]
  refine congrArg (fun i => (b i).toNat) (funext fun a => ?_)
  match a with
  | 0 => rfl

/-- The tables' sums over the tiles. -/
theorem sums_total (x : FVec Ideal S10000x128 .f32) (fx : FVec Ideal S1280000 .f32) (b : IVec S10000 32)
    (hx : ∀ (n : Fin 10000) (c : Fin 128), elemX (F := Ideal) fx (128 * n.val + c.val) = x (ix2 n c)) (g : Fin 64) :
    ∑ w : Fin 32, (outS (F := Ideal) fx b (ix2 w g) : EReal)
      = ∑ n : Fin 10000, if (b (ix1 n)).toNat = g.val then ∑ c : Fin 128, (x (ix2 n c) : EReal) else 0 := by
  refine tiles_of _ (fun n => if elemB (F := Ideal) b n = g.val then ∑ c ∈ range 128, (elemX (F := Ideal) fx (128 * n + c) : EReal) else 0) _
    (fun w => ?_) (fun n => ?_)
  · refine (sumsOf_eq _ _ _ _).trans (sum_congr rfl fun i _ => if_congr Iff.rfl (sum_congr rfl fun c _ => ?_) rfl)
    show (elemX (F := Ideal) fx (40960 * w.val + (128 * i + c)) : EReal) = _
    congr 1; omega
  · show (if elemB (F := Ideal) b n.val = g.val then _ else _ : EReal) = _
    rw [elemB_at, sum_range]
    exact if_congr Iff.rfl (sum_congr rfl fun c _ => hx n c) rfl

/-- The tables' counts over the tiles. -/
theorem counts_total (b : IVec S10000 32) (g : Fin 64) :
    ∑ w : Fin 32, (outC (F := Ideal) b (ix2 w g) : EReal) = ∑ n : Fin 10000, if (b (ix1 n)).toNat = g.val then (1 : EReal) else 0 := by
  refine tiles_of _ (fun n => if elemB (F := Ideal) b n = g.val then (1 : EReal) else 0) _ (fun w => cntsOf_eq _ _ _) (fun n => ?_)
  show (if elemB (F := Ideal) b n.val = g.val then _ else _ : EReal) = _
  rw [elemB_at]

/-- Division by a graph's count goes through the sum over the columns. -/
theorem means_sum {ι κ : Type} [Fintype ι] [Fintype κ] [DecidableEq ι] (p : ι → Prop) [DecidablePred p] (y : ι → κ → EReal) :
    ∑ c : κ, Ideal.div (∑ n : ι, if p n then y n c else 0) (max (∑ n : ι, if p n then (1 : EReal) else 0) 1)
      = Ideal.div (∑ n : ι, if p n then ∑ c : κ, y n c else 0) (max (∑ n : ι, if p n then (1 : EReal) else 0) 1) := by
  rw [count_eq p univ]
  obtain ⟨r, hr, e⟩ := count_max (univ.filter p).card
  rw [e, div_sum _ _ hr, sum_comm]
  refine congrArg (fun s : EReal => Ideal.div s _) (sum_congr rfl fun n _ => ?_)
  by_cases h : p n
  · simp only [if_pos h]
  · simp only [if_neg h, sum_const_zero]

/-- The two values at a graph. -/
theorem value_at (x : FVec Ideal S10000x128 .f32) (fx : FVec Ideal S1280000 .f32) (u : FVec Ideal S64x8 .f32) (b : IVec S10000 32)
    (hx : ∀ (n : Fin 10000) (c : Fin 128), elemX (F := Ideal) fx (128 * n.val + c.val) = x (ix2 n c)) (g : Fin 64) :
    Combine.comb (F := Ideal) (outS fx b) (outC b) u (ix2 0 g) = RefValue.result x u b (ix1 g) := by
  refine (comb_of _ _ u g _ _ (sums_total x fx b hx g) (counts_total b g)).trans (Eq.trans ?_ (RefValue.result_at x u b g).symm)
  rw [means_sum (fun n : Fin 10000 => (b (ix1 n)).toNat = g.val) (fun (n : Fin 10000) (c : Fin 128) => (x (ix2 n c) : EReal))]

/-- A row-major copy of the node table holds row `n`, column `c`, at `128 n + c`. -/
theorem flat_at (x : FVec Ideal S10000x128 .f32) (n : Fin 10000) (c : Fin 128) :
    elemX (F := Ideal) (fun i => shapeCast S1280000 x shapeCasts_S10000x128_S1280000 i) (128 * n.val + c.val) = x (ix2 n c) := by
  have h : 128 * n.val + c.val < 1280000 := by omega
  unfold elemX
  rw [dif_pos h]
  show x _ = _
  congr 1
  refine Shape.reshapeEquiv_eq_of_rowMajor _ ?_
  rw [rowMajor_val2 _ 128 rfl, rowMajor_val1]
  show n.val * 128 + c.val = 128 * n.val + c.val
  omega

end Cert.Proof.KernelValue
-- ==== Proof.Value.lean ====
/-
  The value: from equal arguments, over the extended reals, the kernel and the reference leave one result.
-/
module

public import proofs.«01_k».proof.Proof.Frames
public import proofs.«01_k».proof.Proof.KernelValue

@[expose] public section

noncomputable section

namespace Cert.Proof.Value

open Idealize.ShloMosaic Idealize.SL.Sem
open Cert.Proof.Launch

/-- The kernel's answer is the reference's result of the same arguments. -/
theorem answer_eq (m : (ℓ : Loc Cert.KernelIdeal.nD Cert.KernelIdeal.τ Cert.KernelIdeal.sig) → Buf (Elt Ideal) ℓ) (d : Dev Cert.KernelIdeal.nD) :
    answer m d = RefValue.result (m ((SparseCore.T d).loc Cert.KernelIdeal.main_arg0)) (small m d) (graphs m d) := by
  funext i
  obtain ⟨g, rfl⟩ : ∃ g : Fin 64, i = ix1 g := ⟨i 0, eq_ix1 i⟩
  refine Eq.trans ?_ (KernelValue.value_at (m ((SparseCore.T d).loc Cert.KernelIdeal.main_arg0)) (flat m d) (small m d) (graphs m d)
    (fun n c => KernelValue.flat_at _ n c) g)
  show combined m d _ = combined m d _
  refine congrArg _ (Shape.reshapeEquiv_eq_of_rowMajor _ ?_)
  rw [rowMajor_val2 _ 64 rfl, rowMajor_val1]
  show 0 * 64 + g.val = g.val
  omega

theorem result_congr {x x' : FVec Ideal Cert.ReferenceIdeal.S10000x128 .f32} {u u' : FVec Ideal Cert.ReferenceIdeal.S64x8 .f32}
    {b b' : IVec Cert.ReferenceIdeal.S10000 32} (hx : x = x') (hu : u = u') (hb : b = b') :
    RefValue.result x u b = RefValue.result x' u' b' := by rw [hx, hu, hb]

theorem algebraic : @Cert.algebraic_KernelIdeal_ReferenceIdeal Cert.KernelIdeal.Gen.facts Cert.ReferenceIdeal.Gen.facts
    Cert.Pre_batch_in_graphs.Gen.facts := fun m g m' g' hp ha =>
  ⟨fun c => answer m c,
    (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (run_main m g fun d n => Pre.elemB_lt _ _ _ _ _ (hp d) n),
    (θ_run Cert.ReferenceIdeal.defs _ _).mono
      (fun _ h c => ⟨(h c).1.trans ((result_congr (ha c).1 (ha c).2.2.2.1 (ha c).2.2.2.2).trans (answer_eq m c).symm), (h c).2⟩)
      (Cert.ReferenceIdeal.Value.run (F := Ideal) m' g')⟩

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_batch_in_graphs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_batch_in_graphs.Gen.facts,
  Frames.frame_kernel, Frames.frame_kernelIdeal, Frames.frame_reference,
  Frames.frame_reference_pre, trivial, Value.algebraic⟩

end Cert.Proof

end
